-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2048 : Shape := ⟨2, ![16384, 2048]⟩
abbrev S512x2048 : Shape := ⟨2, ![512, 2048]⟩
abbrev S3x512x2048 : Shape := ⟨3, ![3, 512, 2048]⟩
abbrev S8x512x2048 : Shape := ⟨3, ![8, 512, 2048]⟩
abbrev S8x2048 : Shape := ⟨2, ![8, 2048]⟩
abbrev S2 : Shape := ⟨1, ![2]⟩
abbrev S3 : Shape := ⟨1, ![3]⟩
abbrev S1 : Shape := ⟨1, ![1]⟩
abbrev S_ : Shape := ⟨0, ![]⟩
abbrev S1x512x2048 : Shape := ⟨3, ![1, 512, 2048]⟩
abbrev S64x8x2048 : Shape := ⟨3, ![64, 8, 2048]⟩
abbrev S1x8x2048 : Shape := ⟨3, ![1, 8, 2048]⟩
abbrev S1x1x1 : Shape := ⟨3, ![1, 1, 1]⟩

abbrev nBuf : Space → Nat
  | .hbm => 2
  | .vmem => 6
  | .smem => 1
  | _ => 0

abbrev bufTy : (tb : Table) → Fin (tcTables nBuf tb) → BufTy
  | .hbm, ⟨0, _⟩ => ⟨S16384x2048, .f32⟩
  | .hbm, ⟨1, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S3x512x2048, .f32⟩
  | .local _ .vmem, ⟨3, _⟩ => ⟨S8x512x2048, .f32⟩
  | .local _ .vmem, ⟨4, _⟩ => ⟨S8x2048, .f32⟩
  | .local _ .vmem, ⟨5, _⟩ => ⟨S8x2048, .f32⟩
  | .local _ .smem, ⟨0, _⟩ => ⟨S2, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.smem, 0, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 : BitVec 1 :=
  let c0_i32_6 : BitVec 32 := 0#32
  let c24_i32 : BitVec 32 := 24#32
  let v12 : BitVec 1 := Scalar.cmpi .sge c0_i32_6 c24_i32
  let v13 : BitVec 32 := Scalar.extui v12
  let c0_i32_8 : BitVec 32 := 0#32
  let v14 : BitVec 1 := Scalar.cmpi .ne v13 c0_i32_8
  v14

def k0_off1 : Fin 1 → Nat :=
  let c0_i32_7 : BitVec 32 := 0#32
  let c3_i32 : BitVec 32 := 3#32
  let c0_i32_28 : BitVec 32 := 0#32
  let v31 : BitVec 1 := Scalar.cmpi .eq c3_i32 c0_i32_28
  let c1_i32_29 : BitVec 32 := 1#32
  let v32 : BitVec 32 := Scalar.select v31 c1_i32_29 c3_i32
  let v33 : BitVec 32 := Scalar.remsi c0_i32_7 v32
  let c0_i32_31 : BitVec 32 := 0#32
  let v35 : BitVec 1 := Scalar.cmpi .slt v33 c0_i32_31
  let c0_i32_32 : BitVec 32 := 0#32
  let v36 : BitVec 1 := Scalar.cmpi .slt v32 c0_i32_32
  let v37 : BitVec 1 := Scalar.xori v35 v36
  let c0_i32_30 : BitVec 32 := 0#32
  let v34 : BitVec 1 := Scalar.cmpi .ne v33 c0_i32_30
  let v38 : BitVec 1 := Scalar.andi v37 v34
  let v39 : BitVec 32 := Scalar.addi v33 v32
  let v40 : BitVec 32 := Scalar.select v38 v39 v33
  ![v40.toNat]
def k0_off2 : Fin 3 → Nat :=
  let c0_i32_7 : BitVec 32 := 0#32
  let c24_i32_27 : BitVec 32 := 24#32
  let v30 : BitVec 32 := Scalar.subi c0_i32_7 c24_i32_27
  let c0_i32_33 : BitVec 32 := 0#32
  let c0_i32_34 : BitVec 32 := 0#32
  ![v30.toNat, 0, 0]
def k0_off3 : Fin 2 → Nat :=
  let c0_i32_7 : BitVec 32 := 0#32
  let c512_i32 : BitVec 32 := 512#32
  let v41 : BitVec 32 := Scalar.muli c0_i32_7 c512_i32
  let c0_i32_35 : BitVec 32 := 0#32
  ![v41.toNat, 0]
def k0_cond3 : BitVec 1 :=
  let c0_i32_9 : BitVec 32 := 0#32
  let c24_i32_10 : BitVec 32 := 24#32
  let v15 : BitVec 1 := Scalar.cmpi .slt c0_i32_9 c24_i32_10
  let v16 : BitVec 32 := Scalar.extui v15
  let c0_i32_12 : BitVec 32 := 0#32
  let v17 : BitVec 1 := Scalar.cmpi .ne v16 c0_i32_12
  v17

def k0_off4 : Fin 1 → Nat :=
  let c0_i32_11 : BitVec 32 := 0#32
  let c3_i32_32 : BitVec 32 := 3#32
  let c0_i32_33 : BitVec 32 := 0#32
  let v40 : BitVec 1 := Scalar.cmpi .eq c3_i32_32 c0_i32_33
  let c1_i32_34 : BitVec 32 := 1#32
  let v41 : BitVec 32 := Scalar.select v40 c1_i32_34 c3_i32_32
  let v42 : BitVec 32 := Scalar.remsi c0_i32_11 v41
  let c0_i32_36 : BitVec 32 := 0#32
  let v44 : BitVec 1 := Scalar.cmpi .slt v42 c0_i32_36
  let c0_i32_37 : BitVec 32 := 0#32
  let v45 : BitVec 1 := Scalar.cmpi .slt v41 c0_i32_37
  let v46 : BitVec 1 := Scalar.xori v44 v45
  let c0_i32_35 : BitVec 32 := 0#32
  let v43 : BitVec 1 := Scalar.cmpi .ne v42 c0_i32_35
  let v47 : BitVec 1 := Scalar.andi v46 v43
  let v48 : BitVec 32 := Scalar.addi v42 v41
  let v49 : BitVec 32 := Scalar.select v47 v48 v42
  ![v49.toNat]
def k0_off5 : Fin 3 → Nat :=
  let c0_i32_11 : BitVec 32 := 0#32
  let c3_i32 : BitVec 32 := 3#32
  let c0_i32_27 : BitVec 32 := 0#32
  let v30 : BitVec 1 := Scalar.cmpi .eq c3_i32 c0_i32_27
  let c1_i32_28 : BitVec 32 := 1#32
  let v31 : BitVec 32 := Scalar.select v30 c1_i32_28 c3_i32
  let v32 : BitVec 32 := Scalar.remsi c0_i32_11 v31
  let c0_i32_30 : BitVec 32 := 0#32
  let v34 : BitVec 1 := Scalar.cmpi .slt v32 c0_i32_30
  let c0_i32_31 : BitVec 32 := 0#32
  let v35 : BitVec 1 := Scalar.cmpi .slt v31 c0_i32_31
  let v36 : BitVec 1 := Scalar.xori v34 v35
  let c0_i32_29 : BitVec 32 := 0#32
  let v33 : BitVec 1 := Scalar.cmpi .ne v32 c0_i32_29
  let v37 : BitVec 1 := Scalar.andi v36 v33
  let v38 : BitVec 32 := Scalar.addi v32 v31
  let v39 : BitVec 32 := Scalar.select v37 v38 v32
  let c0_i32_38 : BitVec 32 := 0#32
  let c0_i32_39 : BitVec 32 := 0#32
  ![v39.toNat, 0, 0]
def k0_off6 : Fin 2 → Nat :=
  let c0_i32_11 : BitVec 32 := 0#32
  let c512_i32 : BitVec 32 := 512#32
  let v50 : BitVec 32 := Scalar.muli c0_i32_11 c512_i32
  let c0_i32_40 : BitVec 32 := 0#32
  ![v50.toNat, 0]
def k0_cond4 : BitVec 1 :=
  let c1_i32 : BitVec 32 := 1#32
  let c24_i32_13 : BitVec 32 := 24#32
  let v18 : BitVec 1 := Scalar.cmpi .sge c1_i32 c24_i32_13
  let v19 : BitVec 32 := Scalar.extui v18
  let c0_i32_15 : BitVec 32 := 0#32
  let v20 : BitVec 1 := Scalar.cmpi .ne v19 c0_i32_15
  v20

def k0_off7 : Fin 1 → Nat :=
  let c1_i32_14 : BitVec 32 := 1#32
  let c3_i32 : BitVec 32 := 3#32
  let c0_i32_28 : BitVec 32 := 0#32
  let v31 : BitVec 1 := Scalar.cmpi .eq c3_i32 c0_i32_28
  let c1_i32_29 : BitVec 32 := 1#32
  let v32 : BitVec 32 := Scalar.select v31 c1_i32_29 c3_i32
  let v33 : BitVec 32 := Scalar.remsi c1_i32_14 v32
  let c0_i32_31 : BitVec 32 := 0#32
  let v35 : BitVec 1 := Scalar.cmpi .slt v33 c0_i32_31
  let c0_i32_32 : BitVec 32 := 0#32
  let v36 : BitVec 1 := Scalar.cmpi .slt v32 c0_i32_32
  let v37 : BitVec 1 := Scalar.xori v35 v36
  let c0_i32_30 : BitVec 32 := 0#32
  let v34 : BitVec 1 := Scalar.cmpi .ne v33 c0_i32_30
  let v38 : BitVec 1 := Scalar.andi v37 v34
  let v39 : BitVec 32 := Scalar.addi v33 v32
  let v40 : BitVec 32 := Scalar.select v38 v39 v33
  ![v40.toNat]
def k0_off8 : Fin 3 → Nat :=
  let c1_i32_14 : BitVec 32 := 1#32
  let c24_i32_27 : BitVec 32 := 24#32
  let v30 : BitVec 32 := Scalar.subi c1_i32_14 c24_i32_27
  let c0_i32_33 : BitVec 32 := 0#32
  let c0_i32_34 : BitVec 32 := 0#32
  ![v30.toNat, 0, 0]
def k0_off9 : Fin 2 → Nat :=
  let c1_i32_14 : BitVec 32 := 1#32
  let c512_i32 : BitVec 32 := 512#32
  let v41 : BitVec 32 := Scalar.muli c1_i32_14 c512_i32
  let c0_i32_35 : BitVec 32 := 0#32
  ![v41.toNat, 0]
def k0_cond5 : BitVec 1 :=
  let c1_i32_16 : BitVec 32 := 1#32
  let c24_i32_17 : BitVec 32 := 24#32
  let v21 : BitVec 1 := Scalar.cmpi .slt c1_i32_16 c24_i32_17
  let v22 : BitVec 32 := Scalar.extui v21
  let c0_i32_19 : BitVec 32 := 0#32
  let v23 : BitVec 1 := Scalar.cmpi .ne v22 c0_i32_19
  v23

def k0_off10 : Fin 1 → Nat :=
  let c1_i32_18 : BitVec 32 := 1#32
  let c3_i32_32 : BitVec 32 := 3#32
  let c0_i32_33 : BitVec 32 := 0#32
  let v40 : BitVec 1 := Scalar.cmpi .eq c3_i32_32 c0_i32_33
  let c1_i32_34 : BitVec 32 := 1#32
  let v41 : BitVec 32 := Scalar.select v40 c1_i32_34 c3_i32_32
  let v42 : BitVec 32 := Scalar.remsi c1_i32_18 v41
  let c0_i32_36 : BitVec 32 := 0#32
  let v44 : BitVec 1 := Scalar.cmpi .slt v42 c0_i32_36
  let c0_i32_37 : BitVec 32 := 0#32
  let v45 : BitVec 1 := Scalar.cmpi .slt v41 c0_i32_37
  let v46 : BitVec 1 := Scalar.xori v44 v45
  let c0_i32_35 : BitVec 32 := 0#32
  let v43 : BitVec 1 := Scalar.cmpi .ne v42 c0_i32_35
  let v47 : BitVec 1 := Scalar.andi v46 v43
  let v48 : BitVec 32 := Scalar.addi v42 v41
  let v49 : BitVec 32 := Scalar.select v47 v48 v42
  ![v49.toNat]
def k0_off11 : Fin 3 → Nat :=
  let c1_i32_18 : BitVec 32 := 1#32
  let c3_i32 : BitVec 32 := 3#32
  let c0_i32_27 : BitVec 32 := 0#32
  let v30 : BitVec 1 := Scalar.cmpi .eq c3_i32 c0_i32_27
  let c1_i32_28 : BitVec 32 := 1#32
  let v31 : BitVec 32 := Scalar.select v30 c1_i32_28 c3_i32
  let v32 : BitVec 32 := Scalar.remsi c1_i32_18 v31
  let c0_i32_30 : BitVec 32 := 0#32
  let v34 : BitVec 1 := Scalar.cmpi .slt v32 c0_i32_30
  let c0_i32_31 : BitVec 32 := 0#32
  let v35 : BitVec 1 := Scalar.cmpi .slt v31 c0_i32_31
  let v36 : BitVec 1 := Scalar.xori v34 v35
  let c0_i32_29 : BitVec 32 := 0#32
  let v33 : BitVec 1 := Scalar.cmpi .ne v32 c0_i32_29
  let v37 : BitVec 1 := Scalar.andi v36 v33
  let v38 : BitVec 32 := Scalar.addi v32 v31
  let v39 : BitVec 32 := Scalar.select v37 v38 v32
  let c0_i32_38 : BitVec 32 := 0#32
  let c0_i32_39 : BitVec 32 := 0#32
  ![v39.toNat, 0, 0]
def k0_off12 : Fin 2 → Nat :=
  let c1_i32_18 : BitVec 32 := 1#32
  let c512_i32 : BitVec 32 := 512#32
  let v50 : BitVec 32 := Scalar.muli c1_i32_18 c512_i32
  let c0_i32_40 : BitVec 32 := 0#32
  ![v50.toNat, 0]
def k0_cond6 : BitVec 1 :=
  let c2_i32 : BitVec 32 := 2#32
  let c24_i32_20 : BitVec 32 := 24#32
  let v24 : BitVec 1 := Scalar.cmpi .sge c2_i32 c24_i32_20
  let v25 : BitVec 32 := Scalar.extui v24
  let c0_i32_22 : BitVec 32 := 0#32
  let v26 : BitVec 1 := Scalar.cmpi .ne v25 c0_i32_22
  v26

def k0_off13 : Fin 1 → Nat :=
  let c2_i32_21 : BitVec 32 := 2#32
  let c3_i32 : BitVec 32 := 3#32
  let c0_i32_28 : BitVec 32 := 0#32
  let v31 : BitVec 1 := Scalar.cmpi .eq c3_i32 c0_i32_28
  let c1_i32_29 : BitVec 32 := 1#32
  let v32 : BitVec 32 := Scalar.select v31 c1_i32_29 c3_i32
  let v33 : BitVec 32 := Scalar.remsi c2_i32_21 v32
  let c0_i32_31 : BitVec 32 := 0#32
  let v35 : BitVec 1 := Scalar.cmpi .slt v33 c0_i32_31
  let c0_i32_32 : BitVec 32 := 0#32
  let v36 : BitVec 1 := Scalar.cmpi .slt v32 c0_i32_32
  let v37 : BitVec 1 := Scalar.xori v35 v36
  let c0_i32_30 : BitVec 32 := 0#32
  let v34 : BitVec 1 := Scalar.cmpi .ne v33 c0_i32_30
  let v38 : BitVec 1 := Scalar.andi v37 v34
  let v39 : BitVec 32 := Scalar.addi v33 v32
  let v40 : BitVec 32 := Scalar.select v38 v39 v33
  ![v40.toNat]
def k0_off14 : Fin 3 → Nat :=
  let c2_i32_21 : BitVec 32 := 2#32
  let c24_i32_27 : BitVec 32 := 24#32
  let v30 : BitVec 32 := Scalar.subi c2_i32_21 c24_i32_27
  let c0_i32_33 : BitVec 32 := 0#32
  let c0_i32_34 : BitVec 32 := 0#32
  ![v30.toNat, 0, 0]
def k0_off15 : Fin 2 → Nat :=
  let c2_i32_21 : BitVec 32 := 2#32
  let c512_i32 : BitVec 32 := 512#32
  let v41 : BitVec 32 := Scalar.muli c2_i32_21 c512_i32
  let c0_i32_35 : BitVec 32 := 0#32
  ![v41.toNat, 0]
def k0_cond7 : BitVec 1 :=
  let c2_i32_23 : BitVec 32 := 2#32
  let c24_i32_24 : BitVec 32 := 24#32
  let v27 : BitVec 1 := Scalar.cmpi .slt c2_i32_23 c24_i32_24
  let v28 : BitVec 32 := Scalar.extui v27
  let c0_i32_26 : BitVec 32 := 0#32
  let v29 : BitVec 1 := Scalar.cmpi .ne v28 c0_i32_26
  v29

def k0_off16 : Fin 1 → Nat :=
  let c2_i32_25 : BitVec 32 := 2#32
  let c3_i32_32 : BitVec 32 := 3#32
  let c0_i32_33 : BitVec 32 := 0#32
  let v40 : BitVec 1 := Scalar.cmpi .eq c3_i32_32 c0_i32_33
  let c1_i32_34 : BitVec 32 := 1#32
  let v41 : BitVec 32 := Scalar.select v40 c1_i32_34 c3_i32_32
  let v42 : BitVec 32 := Scalar.remsi c2_i32_25 v41
  let c0_i32_36 : BitVec 32 := 0#32
  let v44 : BitVec 1 := Scalar.cmpi .slt v42 c0_i32_36
  let c0_i32_37 : BitVec 32 := 0#32
  let v45 : BitVec 1 := Scalar.cmpi .slt v41 c0_i32_37
  let v46 : BitVec 1 := Scalar.xori v44 v45
  let c0_i32_35 : BitVec 32 := 0#32
  let v43 : BitVec 1 := Scalar.cmpi .ne v42 c0_i32_35
  let v47 : BitVec 1 := Scalar.andi v46 v43
  let v48 : BitVec 32 := Scalar.addi v42 v41
  let v49 : BitVec 32 := Scalar.select v47 v48 v42
  ![v49.toNat]
def k0_off17 : Fin 3 → Nat :=
  let c2_i32_25 : BitVec 32 := 2#32
  let c3_i32 : BitVec 32 := 3#32
  let c0_i32_27 : BitVec 32 := 0#32
  let v30 : BitVec 1 := Scalar.cmpi .eq c3_i32 c0_i32_27
  let c1_i32_28 : BitVec 32 := 1#32
  let v31 : BitVec 32 := Scalar.select v30 c1_i32_28 c3_i32
  let v32 : BitVec 32 := Scalar.remsi c2_i32_25 v31
  let c0_i32_30 : BitVec 32 := 0#32
  let v34 : BitVec 1 := Scalar.cmpi .slt v32 c0_i32_30
  let c0_i32_31 : BitVec 32 := 0#32
  let v35 : BitVec 1 := Scalar.cmpi .slt v31 c0_i32_31
  let v36 : BitVec 1 := Scalar.xori v34 v35
  let c0_i32_29 : BitVec 32 := 0#32
  let v33 : BitVec 1 := Scalar.cmpi .ne v32 c0_i32_29
  let v37 : BitVec 1 := Scalar.andi v36 v33
  let v38 : BitVec 32 := Scalar.addi v32 v31
  let v39 : BitVec 32 := Scalar.select v37 v38 v32
  let c0_i32_38 : BitVec 32 := 0#32
  let c0_i32_39 : BitVec 32 := 0#32
  ![v39.toNat, 0, 0]
def k0_off18 : Fin 2 → Nat :=
  let c2_i32_25 : BitVec 32 := 2#32
  let c512_i32 : BitVec 32 := 512#32
  let v50 : BitVec 32 := Scalar.muli c2_i32_25 c512_i32
  let c0_i32_40 : BitVec 32 := 0#32
  ![v50.toNat, 0]
def k0_cond8 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond9 (i : grid0.Coords) : BitVec 1 :=
  let arg0 : BitVec 32 := BitVec.ofNat 32 (i 0).val
  let c24_i32 : BitVec 32 := 24#32
  let v12 : BitVec 1 := Scalar.cmpi .sge arg0 c24_i32
  let v13 : BitVec 32 := Scalar.extui v12
  let c0_i32_6 : BitVec 32 := 0#32
  let v14 : BitVec 1 := Scalar.cmpi .ne v13 c0_i32_6
  v14

def k0_off19 (i : grid0.Coords) : Fin 1 → Nat :=
  let arg0 : BitVec 32 := BitVec.ofNat 32 (i 0).val
  let c3_i32_16 : BitVec 32 := 3#32
  let c0_i32_17 : BitVec 32 := 0#32
  let v29 : BitVec 1 := Scalar.cmpi .eq c3_i32_16 c0_i32_17
  let c1_i32 : BitVec 32 := 1#32
  let v30 : BitVec 32 := Scalar.select v29 c1_i32 c3_i32_16
  let v31 : BitVec 32 := Scalar.remsi arg0 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  ![v38.toNat]
def k0_off20 (i : grid0.Coords) : Fin 3 → Nat :=
  let arg0 : BitVec 32 := BitVec.ofNat 32 (i 0).val
  let c24_i32_15 : BitVec 32 := 24#32
  let v28 : BitVec 32 := Scalar.subi arg0 c24_i32_15
  let c0_i32_21 : BitVec 32 := 0#32
  let c0_i32_22 : BitVec 32 := 0#32
  ![v28.toNat, 0, 0]
def k0_off21 (i : grid0.Coords) : Fin 2 → Nat :=
  let arg0 : BitVec 32 := BitVec.ofNat 32 (i 0).val
  let c512_i32 : BitVec 32 := 512#32
  let v39 : BitVec 32 := Scalar.muli arg0 c512_i32
  let c0_i32_23 : BitVec 32 := 0#32
  ![v39.toNat, 0]
def k0_cond10 (i : grid0.Coords) : BitVec 1 :=
  let arg0 : BitVec 32 := BitVec.ofNat 32 (i 0).val
  let c24_i32_7 : BitVec 32 := 24#32
  let v15 : BitVec 1 := Scalar.cmpi .slt arg0 c24_i32_7
  let v16 : BitVec 32 := Scalar.extui v15
  let c0_i32_8 : BitVec 32 := 0#32
  let v17 : BitVec 1 := Scalar.cmpi .ne v16 c0_i32_8
  v17

def k0_off22 (i : grid0.Coords) : Fin 1 → Nat :=
  let arg0 : BitVec 32 := BitVec.ofNat 32 (i 0).val
  let c3_i32_20 : BitVec 32 := 3#32
  let c0_i32_21 : BitVec 32 := 0#32
  let v38 : BitVec 1 := Scalar.cmpi .eq c3_i32_20 c0_i32_21
  let c1_i32_22 : BitVec 32 := 1#32
  let v39 : BitVec 32 := Scalar.select v38 c1_i32_22 c3_i32_20
  let v40 : BitVec 32 := Scalar.remsi arg0 v39
  let c0_i32_24 : BitVec 32 := 0#32
  let v42 : BitVec 1 := Scalar.cmpi .slt v40 c0_i32_24
  let c0_i32_25 : BitVec 32 := 0#32
  let v43 : BitVec 1 := Scalar.cmpi .slt v39 c0_i32_25
  let v44 : BitVec 1 := Scalar.xori v42 v43
  let c0_i32_23 : BitVec 32 := 0#32
  let v41 : BitVec 1 := Scalar.cmpi .ne v40 c0_i32_23
  let v45 : BitVec 1 := Scalar.andi v44 v41
  let v46 : BitVec 32 := Scalar.addi v40 v39
  let v47 : BitVec 32 := Scalar.select v45 v46 v40
  ![v47.toNat]
def k0_off23 (i : grid0.Coords) : Fin 3 → Nat :=
  let arg0 : BitVec 32 := BitVec.ofNat 32 (i 0).val
  let c3_i32_15 : BitVec 32 := 3#32
  let c0_i32_16 : BitVec 32 := 0#32
  let v28 : BitVec 1 := Scalar.cmpi .eq c3_i32_15 c0_i32_16
  let c1_i32 : BitVec 32 := 1#32
  let v29 : BitVec 32 := Scalar.select v28 c1_i32 c3_i32_15
  let v30 : BitVec 32 := Scalar.remsi arg0 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c0_i32_26 : BitVec 32 := 0#32
  let c0_i32_27 : BitVec 32 := 0#32
  ![v37.toNat, 0, 0]
def k0_off24 (i : grid0.Coords) : Fin 2 → Nat :=
  let arg0 : BitVec 32 := BitVec.ofNat 32 (i 0).val
  let c512_i32 : BitVec 32 := 512#32
  let v48 : BitVec 32 := Scalar.muli arg0 c512_i32
  let c0_i32_28 : BitVec 32 := 0#32
  ![v48.toNat, 0]
def k0_cond11 (i : grid0.Coords) : BitVec 1 :=
  let arg0 : BitVec 32 := BitVec.ofNat 32 (i 0).val
  let c24_i32_9 : BitVec 32 := 24#32
  let v18 : BitVec 1 := Scalar.cmpi .sge arg0 c24_i32_9
  let v19 : BitVec 32 := Scalar.extui v18
  let c0_i32_10 : BitVec 32 := 0#32
  let v20 : BitVec 1 := Scalar.cmpi .ne v19 c0_i32_10
  v20

def k0_off25 (i : grid0.Coords) : Fin 3 → Nat :=
  let arg0 : BitVec 32 := BitVec.ofNat 32 (i 0).val
  let c24_i32_15 : BitVec 32 := 24#32
  let v28 : BitVec 32 := Scalar.subi arg0 c24_i32_15
  let v29 : Index := Scalar.indexCast v28
  let c0 : Index := 0#32
  let c0_16 : Index := 0#32
  ![v29.toNat, 0, 0]
def k0_cond14 (i : grid0.Coords) : BitVec 1 :=
  let arg0 : BitVec 32 := BitVec.ofNat 32 (i 0).val
  let c24_i32_11 : BitVec 32 := 24#32
  let v21 : BitVec 1 := Scalar.cmpi .slt arg0 c24_i32_11
  let v22 : BitVec 32 := Scalar.extui v21
  let c0_i32_12 : BitVec 32 := 0#32
  let v23 : BitVec 1 := Scalar.cmpi .ne v22 c0_i32_12
  v23

def k0_off26 (i : grid0.Coords) : Fin 3 → Nat :=
  let arg0 : BitVec 32 := BitVec.ofNat 32 (i 0).val
  let c3_i32_15 : BitVec 32 := 3#32
  let c0_i32_16 : BitVec 32 := 0#32
  let v28 : BitVec 1 := Scalar.cmpi .eq c3_i32_15 c0_i32_16
  let c1_i32 : BitVec 32 := 1#32
  let v29 : BitVec 32 := Scalar.select v28 c1_i32 c3_i32_15
  let v30 : BitVec 32 := Scalar.remsi arg0 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let v38 : Index := Scalar.indexCast v37
  let c0 : Index := 0#32
  let c0_20 : Index := 0#32
  ![v38.toNat, 0, 0]
def k0_cond17 (i : grid0.Coords) : BitVec 1 :=
  let arg0 : BitVec 32 := BitVec.ofNat 32 (i 0).val
  let c3_i32 : BitVec 32 := 3#32
  let v24 : BitVec 32 := Scalar.addi arg0 c3_i32
  let c32_i32_13 : BitVec 32 := 32#32
  let v25 : BitVec 1 := Scalar.cmpi .slt v24 c32_i32_13
  let v26 : BitVec 32 := Scalar.extui v25
  let c0_i32_14 : BitVec 32 := 0#32
  let v27 : BitVec 1 := Scalar.cmpi .ne v26 c0_i32_14
  v27

def k0_cond18 (i : grid0.Coords) : BitVec 1 :=
  let arg0 : BitVec 32 := BitVec.ofNat 32 (i 0).val
  let c3_i32_15 : BitVec 32 := 3#32
  let v28 : BitVec 32 := Scalar.addi arg0 c3_i32_15
  let c24_i32_16 : BitVec 32 := 24#32
  let v29 : BitVec 1 := Scalar.cmpi .sge v28 c24_i32_16
  let v30 : BitVec 32 := Scalar.extui v29
  let c0_i32_17 : BitVec 32 := 0#32
  let v31 : BitVec 1 := Scalar.cmpi .ne v30 c0_i32_17
  v31

def k0_off27 (i : grid0.Coords) : Fin 1 → Nat :=
  let arg0 : BitVec 32 := BitVec.ofNat 32 (i 0).val
  let c3_i32_15 : BitVec 32 := 3#32
  let v28 : BitVec 32 := Scalar.addi arg0 c3_i32_15
  let c3_i32_21 : BitVec 32 := 3#32
  let c0_i32_22 : BitVec 32 := 0#32
  let v36 : BitVec 1 := Scalar.cmpi .eq c3_i32_21 c0_i32_22
  let c1_i32 : BitVec 32 := 1#32
  let v37 : BitVec 32 := Scalar.select v36 c1_i32 c3_i32_21
  let v38 : BitVec 32 := Scalar.remsi v28 v37
  let c0_i32_24 : BitVec 32 := 0#32
  let v40 : BitVec 1 := Scalar.cmpi .slt v38 c0_i32_24
  let c0_i32_25 : BitVec 32 := 0#32
  let v41 : BitVec 1 := Scalar.cmpi .slt v37 c0_i32_25
  let v42 : BitVec 1 := Scalar.xori v40 v41
  let c0_i32_23 : BitVec 32 := 0#32
  let v39 : BitVec 1 := Scalar.cmpi .ne v38 c0_i32_23
  let v43 : BitVec 1 := Scalar.andi v42 v39
  let v44 : BitVec 32 := Scalar.addi v38 v37
  let v45 : BitVec 32 := Scalar.select v43 v44 v38
  ![v45.toNat]
def k0_off28 (i : grid0.Coords) : Fin 3 → Nat :=
  let arg0 : BitVec 32 := BitVec.ofNat 32 (i 0).val
  let c3_i32_15 : BitVec 32 := 3#32
  let v28 : BitVec 32 := Scalar.addi arg0 c3_i32_15
  let c24_i32_20 : BitVec 32 := 24#32
  let v35 : BitVec 32 := Scalar.subi v28 c24_i32_20
  let c0_i32_26 : BitVec 32 := 0#32
  let c0_i32_27 : BitVec 32 := 0#32
  ![v35.toNat, 0, 0]
def k0_off29 (i : grid0.Coords) : Fin 2 → Nat :=
  let arg0 : BitVec 32 := BitVec.ofNat 32 (i 0).val
  let c3_i32_15 : BitVec 32 := 3#32
  let v28 : BitVec 32 := Scalar.addi arg0 c3_i32_15
  let c512_i32 : BitVec 32 := 512#32
  let v46 : BitVec 32 := Scalar.muli v28 c512_i32
  let c0_i32_28 : BitVec 32 := 0#32
  ![v46.toNat, 0]
def k0_cond19 (i : grid0.Coords) : BitVec 1 :=
  let arg0 : BitVec 32 := BitVec.ofNat 32 (i 0).val
  let c3_i32_15 : BitVec 32 := 3#32
  let v28 : BitVec 32 := Scalar.addi arg0 c3_i32_15
  let c24_i32_18 : BitVec 32 := 24#32
  let v32 : BitVec 1 := Scalar.cmpi .slt v28 c24_i32_18
  let v33 : BitVec 32 := Scalar.extui v32
  let c0_i32_19 : BitVec 32 := 0#32
  let v34 : BitVec 1 := Scalar.cmpi .ne v33 c0_i32_19
  v34

def k0_off30 (i : grid0.Coords) : Fin 1 → Nat :=
  let arg0 : BitVec 32 := BitVec.ofNat 32 (i 0).val
  let c3_i32_15 : BitVec 32 := 3#32
  let v28 : BitVec 32 := Scalar.addi arg0 c3_i32_15
  let c3_i32_25 : BitVec 32 := 3#32
  let c0_i32_26 : BitVec 32 := 0#32
  let v45 : BitVec 1 := Scalar.cmpi .eq c3_i32_25 c0_i32_26
  let c1_i32_27 : BitVec 32 := 1#32
  let v46 : BitVec 32 := Scalar.select v45 c1_i32_27 c3_i32_25
  let v47 : BitVec 32 := Scalar.remsi v28 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  ![v54.toNat]
def k0_off31 (i : grid0.Coords) : Fin 3 → Nat :=
  let arg0 : BitVec 32 := BitVec.ofNat 32 (i 0).val
  let c3_i32_15 : BitVec 32 := 3#32
  let v28 : BitVec 32 := Scalar.addi arg0 c3_i32_15
  let c3_i32_20 : BitVec 32 := 3#32
  let c0_i32_21 : BitVec 32 := 0#32
  let v35 : BitVec 1 := Scalar.cmpi .eq c3_i32_20 c0_i32_21
  let c1_i32 : BitVec 32 := 1#32
  let v36 : BitVec 32 := Scalar.select v35 c1_i32 c3_i32_20
  let v37 : BitVec 32 := Scalar.remsi v28 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c0_i32_31 : BitVec 32 := 0#32
  let c0_i32_32 : BitVec 32 := 0#32
  ![v44.toNat, 0, 0]
def k0_off32 (i : grid0.Coords) : Fin 2 → Nat :=
  let arg0 : BitVec 32 := BitVec.ofNat 32 (i 0).val
  let c3_i32_15 : BitVec 32 := 3#32
  let v28 : BitVec 32 := Scalar.addi arg0 c3_i32_15
  let c512_i32 : BitVec 32 := 512#32
  let v55 : BitVec 32 := Scalar.muli v28 c512_i32
  let c0_i32_33 : BitVec 32 := 0#32
  ![v55.toNat, 0]
def k0_cond21 (i : grid0.Coords) : BitVec 1 :=
  let arg0 : BitVec 32 := BitVec.ofNat 32 (i 0).val
  let c32_i32_4 : BitVec 32 := 32#32
  let v9 : BitVec 1 := Scalar.cmpi .sge arg0 c32_i32_4
  let v10 : BitVec 32 := Scalar.extui v9
  let c0_i32_5 : BitVec 32 := 0#32
  let v11 : BitVec 1 := Scalar.cmpi .ne v10 c0_i32_5
  v11

def k0_cond22 (i : grid0.Coords) : BitVec 1 :=
  let arg0 : BitVec 32 := BitVec.ofNat 32 (i 0).val
  let c32_i32_6 : BitVec 32 := 32#32
  let v12 : BitVec 32 := Scalar.subi arg0 c32_i32_6
  let c3_i32_20 : BitVec 32 := 3#32
  let v47 : BitVec 1 := Scalar.cmpi .slt v12 c3_i32_20
  let c23_i32 : BitVec 32 := 23#32
  let v48 : BitVec 32 := Scalar.subi c23_i32 v12
  let c3_i32 : BitVec 32 := 3#32
  let v13 : BitVec 32 := Scalar.subi v12 c3_i32
  let c24_i32 : BitVec 32 := 24#32
  let v49 : BitVec 1 := Scalar.cmpi .slt v13 c24_i32
  let c3_i32_13 : BitVec 32 := 3#32
  let c0_i32_14 : BitVec 32 := 0#32
  let v31 : BitVec 1 := Scalar.cmpi .eq c3_i32_13 c0_i32_14
  let c1_i32_15 : BitVec 32 := 1#32
  let v32 : BitVec 32 := Scalar.select v31 c1_i32_15 c3_i32_13
  let v33 : BitVec 32 := Scalar.remsi v13 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c2_i32 : BitVec 32 := 2#32
  let v41 : BitVec 1 := Scalar.cmpi .eq v40 c2_i32
  let c31_i32 : BitVec 32 := 31#32
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c3_i32_7 : BitVec 32 := 3#32
  let c0_i32_10 : BitVec 32 := 0#32
  let v20 : BitVec 1 := Scalar.cmpi .sgt c3_i32_7 c0_i32_10
  let v21 : BitVec 32 := Scalar.extui v20
  let c0_i32_11 : BitVec 32 := 0#32
  let v22 : BitVec 1 := Scalar.cmpi .slt c3_i32_7 c0_i32_11
  let v23 : BitVec 32 := Scalar.extui v22
  let v24 : BitVec 32 := Scalar.subi v21 v23
  let v25 : BitVec 1 := Scalar.cmpi .ne v19 v24
  let v26 : BitVec 32 := Scalar.remsi v13 c3_i32_7
  let c0_i32_12 : BitVec 32 := 0#32
  let v27 : BitVec 1 := Scalar.cmpi .ne v26 c0_i32_12
  let v28 : BitVec 1 := Scalar.andi v25 v27
  let v14 : BitVec 32 := Scalar.divsi v13 c3_i32_7
  let c1_i32 : BitVec 32 := 1#32
  let v29 : BitVec 32 := Scalar.subi v14 c1_i32
  let v30 : BitVec 32 := Scalar.select v28 v29 v14
  let v42 : BitVec 32 := Scalar.subi c31_i32 v30
  let c20_i32 : BitVec 32 := 20#32
  let c2_i32_19 : BitVec 32 := 2#32
  let v43 : BitVec 32 := Scalar.muli c2_i32_19 v30
  let v44 : BitVec 32 := Scalar.addi v43 v40
  let v45 : BitVec 32 := Scalar.subi c20_i32 v44
  let v46 : BitVec 32 := Scalar.select v41 v42 v45
  let c31_i32_21 : BitVec 32 := 31#32
  let v50 : BitVec 32 := Scalar.subi c31_i32_21 v12
  let v51 : BitVec 32 := Scalar.select v49 v46 v50
  let v52 : BitVec 32 := Scalar.select v47 v48 v51
  let c21_i32 : BitVec 32 := 21#32
  let v53 : BitVec 1 := Scalar.cmpi .slt v52 c21_i32
  let v54 : BitVec 32 := Scalar.extui v53
  let c0_i32_22 : BitVec 32 := 0#32
  let v55 : BitVec 1 := Scalar.cmpi .ne v54 c0_i32_22
  v55

def k0_cond23 (i : grid0.Coords) : BitVec 1 :=
  let arg0 : BitVec 32 := BitVec.ofNat 32 (i 0).val
  let c32_i32_6 : BitVec 32 := 32#32
  let v12 : BitVec 32 := Scalar.subi arg0 c32_i32_6
  let c3_i32_20 : BitVec 32 := 3#32
  let v47 : BitVec 1 := Scalar.cmpi .slt v12 c3_i32_20
  let c23_i32 : BitVec 32 := 23#32
  let v48 : BitVec 32 := Scalar.subi c23_i32 v12
  let c3_i32 : BitVec 32 := 3#32
  let v13 : BitVec 32 := Scalar.subi v12 c3_i32
  let c24_i32 : BitVec 32 := 24#32
  let v49 : BitVec 1 := Scalar.cmpi .slt v13 c24_i32
  let c3_i32_13 : BitVec 32 := 3#32
  let c0_i32_14 : BitVec 32 := 0#32
  let v31 : BitVec 1 := Scalar.cmpi .eq c3_i32_13 c0_i32_14
  let c1_i32_15 : BitVec 32 := 1#32
  let v32 : BitVec 32 := Scalar.select v31 c1_i32_15 c3_i32_13
  let v33 : BitVec 32 := Scalar.remsi v13 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c2_i32 : BitVec 32 := 2#32
  let v41 : BitVec 1 := Scalar.cmpi .eq v40 c2_i32
  let c31_i32 : BitVec 32 := 31#32
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c3_i32_7 : BitVec 32 := 3#32
  let c0_i32_10 : BitVec 32 := 0#32
  let v20 : BitVec 1 := Scalar.cmpi .sgt c3_i32_7 c0_i32_10
  let v21 : BitVec 32 := Scalar.extui v20
  let c0_i32_11 : BitVec 32 := 0#32
  let v22 : BitVec 1 := Scalar.cmpi .slt c3_i32_7 c0_i32_11
  let v23 : BitVec 32 := Scalar.extui v22
  let v24 : BitVec 32 := Scalar.subi v21 v23
  let v25 : BitVec 1 := Scalar.cmpi .ne v19 v24
  let v26 : BitVec 32 := Scalar.remsi v13 c3_i32_7
  let c0_i32_12 : BitVec 32 := 0#32
  let v27 : BitVec 1 := Scalar.cmpi .ne v26 c0_i32_12
  let v28 : BitVec 1 := Scalar.andi v25 v27
  let v14 : BitVec 32 := Scalar.divsi v13 c3_i32_7
  let c1_i32 : BitVec 32 := 1#32
  let v29 : BitVec 32 := Scalar.subi v14 c1_i32
  let v30 : BitVec 32 := Scalar.select v28 v29 v14
  let v42 : BitVec 32 := Scalar.subi c31_i32 v30
  let c20_i32 : BitVec 32 := 20#32
  let c2_i32_19 : BitVec 32 := 2#32
  let v43 : BitVec 32 := Scalar.muli c2_i32_19 v30
  let v44 : BitVec 32 := Scalar.addi v43 v40
  let v45 : BitVec 32 := Scalar.subi c20_i32 v44
  let v46 : BitVec 32 := Scalar.select v41 v42 v45
  let c31_i32_21 : BitVec 32 := 31#32
  let v50 : BitVec 32 := Scalar.subi c31_i32_21 v12
  let v51 : BitVec 32 := Scalar.select v49 v46 v50
  let v52 : BitVec 32 := Scalar.select v47 v48 v51
  let c24_i32_31 : BitVec 32 := 24#32
  let v68 : BitVec 1 := Scalar.cmpi .sge v52 c24_i32_31
  let v69 : BitVec 32 := Scalar.extui v68
  let c0_i32_32 : BitVec 32 := 0#32
  let v70 : BitVec 1 := Scalar.cmpi .ne v69 c0_i32_32
  v70

def k0_off33 (i : grid0.Coords) : Fin 1 → Nat :=
  let arg0 : BitVec 32 := BitVec.ofNat 32 (i 0).val
  let c32_i32_6 : BitVec 32 := 32#32
  let v12 : BitVec 32 := Scalar.subi arg0 c32_i32_6
  let c3_i32_20 : BitVec 32 := 3#32
  let v47 : BitVec 1 := Scalar.cmpi .slt v12 c3_i32_20
  let c23_i32 : BitVec 32 := 23#32
  let v48 : BitVec 32 := Scalar.subi c23_i32 v12
  let c3_i32 : BitVec 32 := 3#32
  let v13 : BitVec 32 := Scalar.subi v12 c3_i32
  let c24_i32 : BitVec 32 := 24#32
  let v49 : BitVec 1 := Scalar.cmpi .slt v13 c24_i32
  let c3_i32_13 : BitVec 32 := 3#32
  let c0_i32_14 : BitVec 32 := 0#32
  let v31 : BitVec 1 := Scalar.cmpi .eq c3_i32_13 c0_i32_14
  let c1_i32_15 : BitVec 32 := 1#32
  let v32 : BitVec 32 := Scalar.select v31 c1_i32_15 c3_i32_13
  let v33 : BitVec 32 := Scalar.remsi v13 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c2_i32 : BitVec 32 := 2#32
  let v41 : BitVec 1 := Scalar.cmpi .eq v40 c2_i32
  let c31_i32 : BitVec 32 := 31#32
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c3_i32_7 : BitVec 32 := 3#32
  let c0_i32_10 : BitVec 32 := 0#32
  let v20 : BitVec 1 := Scalar.cmpi .sgt c3_i32_7 c0_i32_10
  let v21 : BitVec 32 := Scalar.extui v20
  let c0_i32_11 : BitVec 32 := 0#32
  let v22 : BitVec 1 := Scalar.cmpi .slt c3_i32_7 c0_i32_11
  let v23 : BitVec 32 := Scalar.extui v22
  let v24 : BitVec 32 := Scalar.subi v21 v23
  let v25 : BitVec 1 := Scalar.cmpi .ne v19 v24
  let v26 : BitVec 32 := Scalar.remsi v13 c3_i32_7
  let c0_i32_12 : BitVec 32 := 0#32
  let v27 : BitVec 1 := Scalar.cmpi .ne v26 c0_i32_12
  let v28 : BitVec 1 := Scalar.andi v25 v27
  let v14 : BitVec 32 := Scalar.divsi v13 c3_i32_7
  let c1_i32 : BitVec 32 := 1#32
  let v29 : BitVec 32 := Scalar.subi v14 c1_i32
  let v30 : BitVec 32 := Scalar.select v28 v29 v14
  let v42 : BitVec 32 := Scalar.subi c31_i32 v30
  let c20_i32 : BitVec 32 := 20#32
  let c2_i32_19 : BitVec 32 := 2#32
  let v43 : BitVec 32 := Scalar.muli c2_i32_19 v30
  let v44 : BitVec 32 := Scalar.addi v43 v40
  let v45 : BitVec 32 := Scalar.subi c20_i32 v44
  let v46 : BitVec 32 := Scalar.select v41 v42 v45
  let c31_i32_21 : BitVec 32 := 31#32
  let v50 : BitVec 32 := Scalar.subi c31_i32_21 v12
  let v51 : BitVec 32 := Scalar.select v49 v46 v50
  let v52 : BitVec 32 := Scalar.select v47 v48 v51
  let c3_i32_36 : BitVec 32 := 3#32
  let c0_i32_37 : BitVec 32 := 0#32
  let v75 : BitVec 1 := Scalar.cmpi .eq c3_i32_36 c0_i32_37
  let c1_i32_38 : BitVec 32 := 1#32
  let v76 : BitVec 32 := Scalar.select v75 c1_i32_38 c3_i32_36
  let v77 : BitVec 32 := Scalar.remsi v52 v76
  let c0_i32_40 : BitVec 32 := 0#32
  let v79 : BitVec 1 := Scalar.cmpi .slt v77 c0_i32_40
  let c0_i32_41 : BitVec 32 := 0#32
  let v80 : BitVec 1 := Scalar.cmpi .slt v76 c0_i32_41
  let v81 : BitVec 1 := Scalar.xori v79 v80
  let c0_i32_39 : BitVec 32 := 0#32
  let v78 : BitVec 1 := Scalar.cmpi .ne v77 c0_i32_39
  let v82 : BitVec 1 := Scalar.andi v81 v78
  let v83 : BitVec 32 := Scalar.addi v77 v76
  let v84 : BitVec 32 := Scalar.select v82 v83 v77
  ![v84.toNat]
def k0_off34 (i : grid0.Coords) : Fin 3 → Nat :=
  let arg0 : BitVec 32 := BitVec.ofNat 32 (i 0).val
  let c32_i32_6 : BitVec 32 := 32#32
  let v12 : BitVec 32 := Scalar.subi arg0 c32_i32_6
  let c3_i32_20 : BitVec 32 := 3#32
  let v47 : BitVec 1 := Scalar.cmpi .slt v12 c3_i32_20
  let c23_i32 : BitVec 32 := 23#32
  let v48 : BitVec 32 := Scalar.subi c23_i32 v12
  let c3_i32 : BitVec 32 := 3#32
  let v13 : BitVec 32 := Scalar.subi v12 c3_i32
  let c24_i32 : BitVec 32 := 24#32
  let v49 : BitVec 1 := Scalar.cmpi .slt v13 c24_i32
  let c3_i32_13 : BitVec 32 := 3#32
  let c0_i32_14 : BitVec 32 := 0#32
  let v31 : BitVec 1 := Scalar.cmpi .eq c3_i32_13 c0_i32_14
  let c1_i32_15 : BitVec 32 := 1#32
  let v32 : BitVec 32 := Scalar.select v31 c1_i32_15 c3_i32_13
  let v33 : BitVec 32 := Scalar.remsi v13 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c2_i32 : BitVec 32 := 2#32
  let v41 : BitVec 1 := Scalar.cmpi .eq v40 c2_i32
  let c31_i32 : BitVec 32 := 31#32
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c3_i32_7 : BitVec 32 := 3#32
  let c0_i32_10 : BitVec 32 := 0#32
  let v20 : BitVec 1 := Scalar.cmpi .sgt c3_i32_7 c0_i32_10
  let v21 : BitVec 32 := Scalar.extui v20
  let c0_i32_11 : BitVec 32 := 0#32
  let v22 : BitVec 1 := Scalar.cmpi .slt c3_i32_7 c0_i32_11
  let v23 : BitVec 32 := Scalar.extui v22
  let v24 : BitVec 32 := Scalar.subi v21 v23
  let v25 : BitVec 1 := Scalar.cmpi .ne v19 v24
  let v26 : BitVec 32 := Scalar.remsi v13 c3_i32_7
  let c0_i32_12 : BitVec 32 := 0#32
  let v27 : BitVec 1 := Scalar.cmpi .ne v26 c0_i32_12
  let v28 : BitVec 1 := Scalar.andi v25 v27
  let v14 : BitVec 32 := Scalar.divsi v13 c3_i32_7
  let c1_i32 : BitVec 32 := 1#32
  let v29 : BitVec 32 := Scalar.subi v14 c1_i32
  let v30 : BitVec 32 := Scalar.select v28 v29 v14
  let v42 : BitVec 32 := Scalar.subi c31_i32 v30
  let c20_i32 : BitVec 32 := 20#32
  let c2_i32_19 : BitVec 32 := 2#32
  let v43 : BitVec 32 := Scalar.muli c2_i32_19 v30
  let v44 : BitVec 32 := Scalar.addi v43 v40
  let v45 : BitVec 32 := Scalar.subi c20_i32 v44
  let v46 : BitVec 32 := Scalar.select v41 v42 v45
  let c31_i32_21 : BitVec 32 := 31#32
  let v50 : BitVec 32 := Scalar.subi c31_i32_21 v12
  let v51 : BitVec 32 := Scalar.select v49 v46 v50
  let v52 : BitVec 32 := Scalar.select v47 v48 v51
  let c24_i32_35 : BitVec 32 := 24#32
  let v74 : BitVec 32 := Scalar.subi v52 c24_i32_35
  let c0_i32_42 : BitVec 32 := 0#32
  let c0_i32_43 : BitVec 32 := 0#32
  ![v74.toNat, 0, 0]
def k0_off35 (i : grid0.Coords) : Fin 2 → Nat :=
  let arg0 : BitVec 32 := BitVec.ofNat 32 (i 0).val
  let c32_i32_6 : BitVec 32 := 32#32
  let v12 : BitVec 32 := Scalar.subi arg0 c32_i32_6
  let c3_i32_20 : BitVec 32 := 3#32
  let v47 : BitVec 1 := Scalar.cmpi .slt v12 c3_i32_20
  let c23_i32 : BitVec 32 := 23#32
  let v48 : BitVec 32 := Scalar.subi c23_i32 v12
  let c3_i32 : BitVec 32 := 3#32
  let v13 : BitVec 32 := Scalar.subi v12 c3_i32
  let c24_i32 : BitVec 32 := 24#32
  let v49 : BitVec 1 := Scalar.cmpi .slt v13 c24_i32
  let c3_i32_13 : BitVec 32 := 3#32
  let c0_i32_14 : BitVec 32 := 0#32
  let v31 : BitVec 1 := Scalar.cmpi .eq c3_i32_13 c0_i32_14
  let c1_i32_15 : BitVec 32 := 1#32
  let v32 : BitVec 32 := Scalar.select v31 c1_i32_15 c3_i32_13
  let v33 : BitVec 32 := Scalar.remsi v13 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c2_i32 : BitVec 32 := 2#32
  let v41 : BitVec 1 := Scalar.cmpi .eq v40 c2_i32
  let c31_i32 : BitVec 32 := 31#32
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c3_i32_7 : BitVec 32 := 3#32
  let c0_i32_10 : BitVec 32 := 0#32
  let v20 : BitVec 1 := Scalar.cmpi .sgt c3_i32_7 c0_i32_10
  let v21 : BitVec 32 := Scalar.extui v20
  let c0_i32_11 : BitVec 32 := 0#32
  let v22 : BitVec 1 := Scalar.cmpi .slt c3_i32_7 c0_i32_11
  let v23 : BitVec 32 := Scalar.extui v22
  let v24 : BitVec 32 := Scalar.subi v21 v23
  let v25 : BitVec 1 := Scalar.cmpi .ne v19 v24
  let v26 : BitVec 32 := Scalar.remsi v13 c3_i32_7
  let c0_i32_12 : BitVec 32 := 0#32
  let v27 : BitVec 1 := Scalar.cmpi .ne v26 c0_i32_12
  let v28 : BitVec 1 := Scalar.andi v25 v27
  let v14 : BitVec 32 := Scalar.divsi v13 c3_i32_7
  let c1_i32 : BitVec 32 := 1#32
  let v29 : BitVec 32 := Scalar.subi v14 c1_i32
  let v30 : BitVec 32 := Scalar.select v28 v29 v14
  let v42 : BitVec 32 := Scalar.subi c31_i32 v30
  let c20_i32 : BitVec 32 := 20#32
  let c2_i32_19 : BitVec 32 := 2#32
  let v43 : BitVec 32 := Scalar.muli c2_i32_19 v30
  let v44 : BitVec 32 := Scalar.addi v43 v40
  let v45 : BitVec 32 := Scalar.subi c20_i32 v44
  let v46 : BitVec 32 := Scalar.select v41 v42 v45
  let c31_i32_21 : BitVec 32 := 31#32
  let v50 : BitVec 32 := Scalar.subi c31_i32_21 v12
  let v51 : BitVec 32 := Scalar.select v49 v46 v50
  let v52 : BitVec 32 := Scalar.select v47 v48 v51
  let c512_i32 : BitVec 32 := 512#32
  let v85 : BitVec 32 := Scalar.muli v52 c512_i32
  let c0_i32_44 : BitVec 32 := 0#32
  ![v85.toNat, 0]
def k0_cond24 (i : grid0.Coords) : BitVec 1 :=
  let arg0 : BitVec 32 := BitVec.ofNat 32 (i 0).val
  let c32_i32_6 : BitVec 32 := 32#32
  let v12 : BitVec 32 := Scalar.subi arg0 c32_i32_6
  let c3_i32_20 : BitVec 32 := 3#32
  let v47 : BitVec 1 := Scalar.cmpi .slt v12 c3_i32_20
  let c23_i32 : BitVec 32 := 23#32
  let v48 : BitVec 32 := Scalar.subi c23_i32 v12
  let c3_i32 : BitVec 32 := 3#32
  let v13 : BitVec 32 := Scalar.subi v12 c3_i32
  let c24_i32 : BitVec 32 := 24#32
  let v49 : BitVec 1 := Scalar.cmpi .slt v13 c24_i32
  let c3_i32_13 : BitVec 32 := 3#32
  let c0_i32_14 : BitVec 32 := 0#32
  let v31 : BitVec 1 := Scalar.cmpi .eq c3_i32_13 c0_i32_14
  let c1_i32_15 : BitVec 32 := 1#32
  let v32 : BitVec 32 := Scalar.select v31 c1_i32_15 c3_i32_13
  let v33 : BitVec 32 := Scalar.remsi v13 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c2_i32 : BitVec 32 := 2#32
  let v41 : BitVec 1 := Scalar.cmpi .eq v40 c2_i32
  let c31_i32 : BitVec 32 := 31#32
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c3_i32_7 : BitVec 32 := 3#32
  let c0_i32_10 : BitVec 32 := 0#32
  let v20 : BitVec 1 := Scalar.cmpi .sgt c3_i32_7 c0_i32_10
  let v21 : BitVec 32 := Scalar.extui v20
  let c0_i32_11 : BitVec 32 := 0#32
  let v22 : BitVec 1 := Scalar.cmpi .slt c3_i32_7 c0_i32_11
  let v23 : BitVec 32 := Scalar.extui v22
  let v24 : BitVec 32 := Scalar.subi v21 v23
  let v25 : BitVec 1 := Scalar.cmpi .ne v19 v24
  let v26 : BitVec 32 := Scalar.remsi v13 c3_i32_7
  let c0_i32_12 : BitVec 32 := 0#32
  let v27 : BitVec 1 := Scalar.cmpi .ne v26 c0_i32_12
  let v28 : BitVec 1 := Scalar.andi v25 v27
  let v14 : BitVec 32 := Scalar.divsi v13 c3_i32_7
  let c1_i32 : BitVec 32 := 1#32
  let v29 : BitVec 32 := Scalar.subi v14 c1_i32
  let v30 : BitVec 32 := Scalar.select v28 v29 v14
  let v42 : BitVec 32 := Scalar.subi c31_i32 v30
  let c20_i32 : BitVec 32 := 20#32
  let c2_i32_19 : BitVec 32 := 2#32
  let v43 : BitVec 32 := Scalar.muli c2_i32_19 v30
  let v44 : BitVec 32 := Scalar.addi v43 v40
  let v45 : BitVec 32 := Scalar.subi c20_i32 v44
  let v46 : BitVec 32 := Scalar.select v41 v42 v45
  let c31_i32_21 : BitVec 32 := 31#32
  let v50 : BitVec 32 := Scalar.subi c31_i32_21 v12
  let v51 : BitVec 32 := Scalar.select v49 v46 v50
  let v52 : BitVec 32 := Scalar.select v47 v48 v51
  let c24_i32_33 : BitVec 32 := 24#32
  let v71 : BitVec 1 := Scalar.cmpi .slt v52 c24_i32_33
  let v72 : BitVec 32 := Scalar.extui v71
  let c0_i32_34 : BitVec 32 := 0#32
  let v73 : BitVec 1 := Scalar.cmpi .ne v72 c0_i32_34
  v73

def k0_off36 (i : grid0.Coords) : Fin 1 → Nat :=
  let arg0 : BitVec 32 := BitVec.ofNat 32 (i 0).val
  let c32_i32_6 : BitVec 32 := 32#32
  let v12 : BitVec 32 := Scalar.subi arg0 c32_i32_6
  let c3_i32_20 : BitVec 32 := 3#32
  let v47 : BitVec 1 := Scalar.cmpi .slt v12 c3_i32_20
  let c23_i32 : BitVec 32 := 23#32
  let v48 : BitVec 32 := Scalar.subi c23_i32 v12
  let c3_i32 : BitVec 32 := 3#32
  let v13 : BitVec 32 := Scalar.subi v12 c3_i32
  let c24_i32 : BitVec 32 := 24#32
  let v49 : BitVec 1 := Scalar.cmpi .slt v13 c24_i32
  let c3_i32_13 : BitVec 32 := 3#32
  let c0_i32_14 : BitVec 32 := 0#32
  let v31 : BitVec 1 := Scalar.cmpi .eq c3_i32_13 c0_i32_14
  let c1_i32_15 : BitVec 32 := 1#32
  let v32 : BitVec 32 := Scalar.select v31 c1_i32_15 c3_i32_13
  let v33 : BitVec 32 := Scalar.remsi v13 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c2_i32 : BitVec 32 := 2#32
  let v41 : BitVec 1 := Scalar.cmpi .eq v40 c2_i32
  let c31_i32 : BitVec 32 := 31#32
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c3_i32_7 : BitVec 32 := 3#32
  let c0_i32_10 : BitVec 32 := 0#32
  let v20 : BitVec 1 := Scalar.cmpi .sgt c3_i32_7 c0_i32_10
  let v21 : BitVec 32 := Scalar.extui v20
  let c0_i32_11 : BitVec 32 := 0#32
  let v22 : BitVec 1 := Scalar.cmpi .slt c3_i32_7 c0_i32_11
  let v23 : BitVec 32 := Scalar.extui v22
  let v24 : BitVec 32 := Scalar.subi v21 v23
  let v25 : BitVec 1 := Scalar.cmpi .ne v19 v24
  let v26 : BitVec 32 := Scalar.remsi v13 c3_i32_7
  let c0_i32_12 : BitVec 32 := 0#32
  let v27 : BitVec 1 := Scalar.cmpi .ne v26 c0_i32_12
  let v28 : BitVec 1 := Scalar.andi v25 v27
  let v14 : BitVec 32 := Scalar.divsi v13 c3_i32_7
  let c1_i32 : BitVec 32 := 1#32
  let v29 : BitVec 32 := Scalar.subi v14 c1_i32
  let v30 : BitVec 32 := Scalar.select v28 v29 v14
  let v42 : BitVec 32 := Scalar.subi c31_i32 v30
  let c20_i32 : BitVec 32 := 20#32
  let c2_i32_19 : BitVec 32 := 2#32
  let v43 : BitVec 32 := Scalar.muli c2_i32_19 v30
  let v44 : BitVec 32 := Scalar.addi v43 v40
  let v45 : BitVec 32 := Scalar.subi c20_i32 v44
  let v46 : BitVec 32 := Scalar.select v41 v42 v45
  let c31_i32_21 : BitVec 32 := 31#32
  let v50 : BitVec 32 := Scalar.subi c31_i32_21 v12
  let v51 : BitVec 32 := Scalar.select v49 v46 v50
  let v52 : BitVec 32 := Scalar.select v47 v48 v51
  let c3_i32_41 : BitVec 32 := 3#32
  let c0_i32_42 : BitVec 32 := 0#32
  let v84 : BitVec 1 := Scalar.cmpi .eq c3_i32_41 c0_i32_42
  let c1_i32_43 : BitVec 32 := 1#32
  let v85 : BitVec 32 := Scalar.select v84 c1_i32_43 c3_i32_41
  let v86 : BitVec 32 := Scalar.remsi v52 v85
  let c0_i32_45 : BitVec 32 := 0#32
  let v88 : BitVec 1 := Scalar.cmpi .slt v86 c0_i32_45
  let c0_i32_46 : BitVec 32 := 0#32
  let v89 : BitVec 1 := Scalar.cmpi .slt v85 c0_i32_46
  let v90 : BitVec 1 := Scalar.xori v88 v89
  let c0_i32_44 : BitVec 32 := 0#32
  let v87 : BitVec 1 := Scalar.cmpi .ne v86 c0_i32_44
  let v91 : BitVec 1 := Scalar.andi v90 v87
  let v92 : BitVec 32 := Scalar.addi v86 v85
  let v93 : BitVec 32 := Scalar.select v91 v92 v86
  ![v93.toNat]
def k0_off37 (i : grid0.Coords) : Fin 3 → Nat :=
  let arg0 : BitVec 32 := BitVec.ofNat 32 (i 0).val
  let c32_i32_6 : BitVec 32 := 32#32
  let v12 : BitVec 32 := Scalar.subi arg0 c32_i32_6
  let c3_i32_20 : BitVec 32 := 3#32
  let v47 : BitVec 1 := Scalar.cmpi .slt v12 c3_i32_20
  let c23_i32 : BitVec 32 := 23#32
  let v48 : BitVec 32 := Scalar.subi c23_i32 v12
  let c3_i32 : BitVec 32 := 3#32
  let v13 : BitVec 32 := Scalar.subi v12 c3_i32
  let c24_i32 : BitVec 32 := 24#32
  let v49 : BitVec 1 := Scalar.cmpi .slt v13 c24_i32
  let c3_i32_13 : BitVec 32 := 3#32
  let c0_i32_14 : BitVec 32 := 0#32
  let v31 : BitVec 1 := Scalar.cmpi .eq c3_i32_13 c0_i32_14
  let c1_i32_15 : BitVec 32 := 1#32
  let v32 : BitVec 32 := Scalar.select v31 c1_i32_15 c3_i32_13
  let v33 : BitVec 32 := Scalar.remsi v13 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c2_i32 : BitVec 32 := 2#32
  let v41 : BitVec 1 := Scalar.cmpi .eq v40 c2_i32
  let c31_i32 : BitVec 32 := 31#32
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c3_i32_7 : BitVec 32 := 3#32
  let c0_i32_10 : BitVec 32 := 0#32
  let v20 : BitVec 1 := Scalar.cmpi .sgt c3_i32_7 c0_i32_10
  let v21 : BitVec 32 := Scalar.extui v20
  let c0_i32_11 : BitVec 32 := 0#32
  let v22 : BitVec 1 := Scalar.cmpi .slt c3_i32_7 c0_i32_11
  let v23 : BitVec 32 := Scalar.extui v22
  let v24 : BitVec 32 := Scalar.subi v21 v23
  let v25 : BitVec 1 := Scalar.cmpi .ne v19 v24
  let v26 : BitVec 32 := Scalar.remsi v13 c3_i32_7
  let c0_i32_12 : BitVec 32 := 0#32
  let v27 : BitVec 1 := Scalar.cmpi .ne v26 c0_i32_12
  let v28 : BitVec 1 := Scalar.andi v25 v27
  let v14 : BitVec 32 := Scalar.divsi v13 c3_i32_7
  let c1_i32 : BitVec 32 := 1#32
  let v29 : BitVec 32 := Scalar.subi v14 c1_i32
  let v30 : BitVec 32 := Scalar.select v28 v29 v14
  let v42 : BitVec 32 := Scalar.subi c31_i32 v30
  let c20_i32 : BitVec 32 := 20#32
  let c2_i32_19 : BitVec 32 := 2#32
  let v43 : BitVec 32 := Scalar.muli c2_i32_19 v30
  let v44 : BitVec 32 := Scalar.addi v43 v40
  let v45 : BitVec 32 := Scalar.subi c20_i32 v44
  let v46 : BitVec 32 := Scalar.select v41 v42 v45
  let c31_i32_21 : BitVec 32 := 31#32
  let v50 : BitVec 32 := Scalar.subi c31_i32_21 v12
  let v51 : BitVec 32 := Scalar.select v49 v46 v50
  let v52 : BitVec 32 := Scalar.select v47 v48 v51
  let c3_i32_35 : BitVec 32 := 3#32
  let c0_i32_36 : BitVec 32 := 0#32
  let v74 : BitVec 1 := Scalar.cmpi .eq c3_i32_35 c0_i32_36
  let c1_i32_37 : BitVec 32 := 1#32
  let v75 : BitVec 32 := Scalar.select v74 c1_i32_37 c3_i32_35
  let v76 : BitVec 32 := Scalar.remsi v52 v75
  let c0_i32_39 : BitVec 32 := 0#32
  let v78 : BitVec 1 := Scalar.cmpi .slt v76 c0_i32_39
  let c0_i32_40 : BitVec 32 := 0#32
  let v79 : BitVec 1 := Scalar.cmpi .slt v75 c0_i32_40
  let v80 : BitVec 1 := Scalar.xori v78 v79
  let c0_i32_38 : BitVec 32 := 0#32
  let v77 : BitVec 1 := Scalar.cmpi .ne v76 c0_i32_38
  let v81 : BitVec 1 := Scalar.andi v80 v77
  let v82 : BitVec 32 := Scalar.addi v76 v75
  let v83 : BitVec 32 := Scalar.select v81 v82 v76
  let c0_i32_47 : BitVec 32 := 0#32
  let c0_i32_48 : BitVec 32 := 0#32
  ![v83.toNat, 0, 0]
def k0_off38 (i : grid0.Coords) : Fin 2 → Nat :=
  let arg0 : BitVec 32 := BitVec.ofNat 32 (i 0).val
  let c32_i32_6 : BitVec 32 := 32#32
  let v12 : BitVec 32 := Scalar.subi arg0 c32_i32_6
  let c3_i32_20 : BitVec 32 := 3#32
  let v47 : BitVec 1 := Scalar.cmpi .slt v12 c3_i32_20
  let c23_i32 : BitVec 32 := 23#32
  let v48 : BitVec 32 := Scalar.subi c23_i32 v12
  let c3_i32 : BitVec 32 := 3#32
  let v13 : BitVec 32 := Scalar.subi v12 c3_i32
  let c24_i32 : BitVec 32 := 24#32
  let v49 : BitVec 1 := Scalar.cmpi .slt v13 c24_i32
  let c3_i32_13 : BitVec 32 := 3#32
  let c0_i32_14 : BitVec 32 := 0#32
  let v31 : BitVec 1 := Scalar.cmpi .eq c3_i32_13 c0_i32_14
  let c1_i32_15 : BitVec 32 := 1#32
  let v32 : BitVec 32 := Scalar.select v31 c1_i32_15 c3_i32_13
  let v33 : BitVec 32 := Scalar.remsi v13 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c2_i32 : BitVec 32 := 2#32
  let v41 : BitVec 1 := Scalar.cmpi .eq v40 c2_i32
  let c31_i32 : BitVec 32 := 31#32
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c3_i32_7 : BitVec 32 := 3#32
  let c0_i32_10 : BitVec 32 := 0#32
  let v20 : BitVec 1 := Scalar.cmpi .sgt c3_i32_7 c0_i32_10
  let v21 : BitVec 32 := Scalar.extui v20
  let c0_i32_11 : BitVec 32 := 0#32
  let v22 : BitVec 1 := Scalar.cmpi .slt c3_i32_7 c0_i32_11
  let v23 : BitVec 32 := Scalar.extui v22
  let v24 : BitVec 32 := Scalar.subi v21 v23
  let v25 : BitVec 1 := Scalar.cmpi .ne v19 v24
  let v26 : BitVec 32 := Scalar.remsi v13 c3_i32_7
  let c0_i32_12 : BitVec 32 := 0#32
  let v27 : BitVec 1 := Scalar.cmpi .ne v26 c0_i32_12
  let v28 : BitVec 1 := Scalar.andi v25 v27
  let v14 : BitVec 32 := Scalar.divsi v13 c3_i32_7
  let c1_i32 : BitVec 32 := 1#32
  let v29 : BitVec 32 := Scalar.subi v14 c1_i32
  let v30 : BitVec 32 := Scalar.select v28 v29 v14
  let v42 : BitVec 32 := Scalar.subi c31_i32 v30
  let c20_i32 : BitVec 32 := 20#32
  let c2_i32_19 : BitVec 32 := 2#32
  let v43 : BitVec 32 := Scalar.muli c2_i32_19 v30
  let v44 : BitVec 32 := Scalar.addi v43 v40
  let v45 : BitVec 32 := Scalar.subi c20_i32 v44
  let v46 : BitVec 32 := Scalar.select v41 v42 v45
  let c31_i32_21 : BitVec 32 := 31#32
  let v50 : BitVec 32 := Scalar.subi c31_i32_21 v12
  let v51 : BitVec 32 := Scalar.select v49 v46 v50
  let v52 : BitVec 32 := Scalar.select v47 v48 v51
  let c512_i32 : BitVec 32 := 512#32
  let v94 : BitVec 32 := Scalar.muli v52 c512_i32
  let c0_i32_49 : BitVec 32 := 0#32
  ![v94.toNat, 0]
def k0_cond25 (i : grid0.Coords) : BitVec 1 :=
  let arg0 : BitVec 32 := BitVec.ofNat 32 (i 0).val
  let c32_i32_6 : BitVec 32 := 32#32
  let v12 : BitVec 32 := Scalar.subi arg0 c32_i32_6
  let c3_i32_20 : BitVec 32 := 3#32
  let v47 : BitVec 1 := Scalar.cmpi .slt v12 c3_i32_20
  let c23_i32 : BitVec 32 := 23#32
  let v48 : BitVec 32 := Scalar.subi c23_i32 v12
  let c3_i32 : BitVec 32 := 3#32
  let v13 : BitVec 32 := Scalar.subi v12 c3_i32
  let c24_i32 : BitVec 32 := 24#32
  let v49 : BitVec 1 := Scalar.cmpi .slt v13 c24_i32
  let c3_i32_13 : BitVec 32 := 3#32
  let c0_i32_14 : BitVec 32 := 0#32
  let v31 : BitVec 1 := Scalar.cmpi .eq c3_i32_13 c0_i32_14
  let c1_i32_15 : BitVec 32 := 1#32
  let v32 : BitVec 32 := Scalar.select v31 c1_i32_15 c3_i32_13
  let v33 : BitVec 32 := Scalar.remsi v13 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c2_i32 : BitVec 32 := 2#32
  let v41 : BitVec 1 := Scalar.cmpi .eq v40 c2_i32
  let c31_i32 : BitVec 32 := 31#32
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c3_i32_7 : BitVec 32 := 3#32
  let c0_i32_10 : BitVec 32 := 0#32
  let v20 : BitVec 1 := Scalar.cmpi .sgt c3_i32_7 c0_i32_10
  let v21 : BitVec 32 := Scalar.extui v20
  let c0_i32_11 : BitVec 32 := 0#32
  let v22 : BitVec 1 := Scalar.cmpi .slt c3_i32_7 c0_i32_11
  let v23 : BitVec 32 := Scalar.extui v22
  let v24 : BitVec 32 := Scalar.subi v21 v23
  let v25 : BitVec 1 := Scalar.cmpi .ne v19 v24
  let v26 : BitVec 32 := Scalar.remsi v13 c3_i32_7
  let c0_i32_12 : BitVec 32 := 0#32
  let v27 : BitVec 1 := Scalar.cmpi .ne v26 c0_i32_12
  let v28 : BitVec 1 := Scalar.andi v25 v27
  let v14 : BitVec 32 := Scalar.divsi v13 c3_i32_7
  let c1_i32 : BitVec 32 := 1#32
  let v29 : BitVec 32 := Scalar.subi v14 c1_i32
  let v30 : BitVec 32 := Scalar.select v28 v29 v14
  let v42 : BitVec 32 := Scalar.subi c31_i32 v30
  let c20_i32 : BitVec 32 := 20#32
  let c2_i32_19 : BitVec 32 := 2#32
  let v43 : BitVec 32 := Scalar.muli c2_i32_19 v30
  let v44 : BitVec 32 := Scalar.addi v43 v40
  let v45 : BitVec 32 := Scalar.subi c20_i32 v44
  let v46 : BitVec 32 := Scalar.select v41 v42 v45
  let c31_i32_21 : BitVec 32 := 31#32
  let v50 : BitVec 32 := Scalar.subi c31_i32_21 v12
  let v51 : BitVec 32 := Scalar.select v49 v46 v50
  let v52 : BitVec 32 := Scalar.select v47 v48 v51
  let c24_i32_23 : BitVec 32 := 24#32
  let v56 : BitVec 1 := Scalar.cmpi .sge v52 c24_i32_23
  let v57 : BitVec 32 := Scalar.extui v56
  let c0_i32_24 : BitVec 32 := 0#32
  let v58 : BitVec 1 := Scalar.cmpi .ne v57 c0_i32_24
  v58

def k0_off39 (i : grid0.Coords) : Fin 3 → Nat :=
  let arg0 : BitVec 32 := BitVec.ofNat 32 (i 0).val
  let c32_i32_6 : BitVec 32 := 32#32
  let v12 : BitVec 32 := Scalar.subi arg0 c32_i32_6
  let c3_i32_20 : BitVec 32 := 3#32
  let v47 : BitVec 1 := Scalar.cmpi .slt v12 c3_i32_20
  let c23_i32 : BitVec 32 := 23#32
  let v48 : BitVec 32 := Scalar.subi c23_i32 v12
  let c3_i32 : BitVec 32 := 3#32
  let v13 : BitVec 32 := Scalar.subi v12 c3_i32
  let c24_i32 : BitVec 32 := 24#32
  let v49 : BitVec 1 := Scalar.cmpi .slt v13 c24_i32
  let c3_i32_13 : BitVec 32 := 3#32
  let c0_i32_14 : BitVec 32 := 0#32
  let v31 : BitVec 1 := Scalar.cmpi .eq c3_i32_13 c0_i32_14
  let c1_i32_15 : BitVec 32 := 1#32
  let v32 : BitVec 32 := Scalar.select v31 c1_i32_15 c3_i32_13
  let v33 : BitVec 32 := Scalar.remsi v13 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c2_i32 : BitVec 32 := 2#32
  let v41 : BitVec 1 := Scalar.cmpi .eq v40 c2_i32
  let c31_i32 : BitVec 32 := 31#32
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c3_i32_7 : BitVec 32 := 3#32
  let c0_i32_10 : BitVec 32 := 0#32
  let v20 : BitVec 1 := Scalar.cmpi .sgt c3_i32_7 c0_i32_10
  let v21 : BitVec 32 := Scalar.extui v20
  let c0_i32_11 : BitVec 32 := 0#32
  let v22 : BitVec 1 := Scalar.cmpi .slt c3_i32_7 c0_i32_11
  let v23 : BitVec 32 := Scalar.extui v22
  let v24 : BitVec 32 := Scalar.subi v21 v23
  let v25 : BitVec 1 := Scalar.cmpi .ne v19 v24
  let v26 : BitVec 32 := Scalar.remsi v13 c3_i32_7
  let c0_i32_12 : BitVec 32 := 0#32
  let v27 : BitVec 1 := Scalar.cmpi .ne v26 c0_i32_12
  let v28 : BitVec 1 := Scalar.andi v25 v27
  let v14 : BitVec 32 := Scalar.divsi v13 c3_i32_7
  let c1_i32 : BitVec 32 := 1#32
  let v29 : BitVec 32 := Scalar.subi v14 c1_i32
  let v30 : BitVec 32 := Scalar.select v28 v29 v14
  let v42 : BitVec 32 := Scalar.subi c31_i32 v30
  let c20_i32 : BitVec 32 := 20#32
  let c2_i32_19 : BitVec 32 := 2#32
  let v43 : BitVec 32 := Scalar.muli c2_i32_19 v30
  let v44 : BitVec 32 := Scalar.addi v43 v40
  let v45 : BitVec 32 := Scalar.subi c20_i32 v44
  let v46 : BitVec 32 := Scalar.select v41 v42 v45
  let c31_i32_21 : BitVec 32 := 31#32
  let v50 : BitVec 32 := Scalar.subi c31_i32_21 v12
  let v51 : BitVec 32 := Scalar.select v49 v46 v50
  let v52 : BitVec 32 := Scalar.select v47 v48 v51
  let c24_i32_31 : BitVec 32 := 24#32
  let v68 : BitVec 32 := Scalar.subi v52 c24_i32_31
  let v69 : Index := Scalar.indexCast v68
  let c0 : Index := 0#32
  let c0_32 : Index := 0#32
  ![v69.toNat, 0, 0]
def k0_cond26 (i : grid0.Coords) : BitVec 1 :=
  let arg0 : BitVec 32 := BitVec.ofNat 32 (i 0).val
  let c32_i32_6 : BitVec 32 := 32#32
  let v12 : BitVec 32 := Scalar.subi arg0 c32_i32_6
  let c3_i32_20 : BitVec 32 := 3#32
  let v47 : BitVec 1 := Scalar.cmpi .slt v12 c3_i32_20
  let c23_i32 : BitVec 32 := 23#32
  let v48 : BitVec 32 := Scalar.subi c23_i32 v12
  let c3_i32 : BitVec 32 := 3#32
  let v13 : BitVec 32 := Scalar.subi v12 c3_i32
  let c24_i32 : BitVec 32 := 24#32
  let v49 : BitVec 1 := Scalar.cmpi .slt v13 c24_i32
  let c3_i32_13 : BitVec 32 := 3#32
  let c0_i32_14 : BitVec 32 := 0#32
  let v31 : BitVec 1 := Scalar.cmpi .eq c3_i32_13 c0_i32_14
  let c1_i32_15 : BitVec 32 := 1#32
  let v32 : BitVec 32 := Scalar.select v31 c1_i32_15 c3_i32_13
  let v33 : BitVec 32 := Scalar.remsi v13 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c2_i32 : BitVec 32 := 2#32
  let v41 : BitVec 1 := Scalar.cmpi .eq v40 c2_i32
  let c31_i32 : BitVec 32 := 31#32
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c3_i32_7 : BitVec 32 := 3#32
  let c0_i32_10 : BitVec 32 := 0#32
  let v20 : BitVec 1 := Scalar.cmpi .sgt c3_i32_7 c0_i32_10
  let v21 : BitVec 32 := Scalar.extui v20
  let c0_i32_11 : BitVec 32 := 0#32
  let v22 : BitVec 1 := Scalar.cmpi .slt c3_i32_7 c0_i32_11
  let v23 : BitVec 32 := Scalar.extui v22
  let v24 : BitVec 32 := Scalar.subi v21 v23
  let v25 : BitVec 1 := Scalar.cmpi .ne v19 v24
  let v26 : BitVec 32 := Scalar.remsi v13 c3_i32_7
  let c0_i32_12 : BitVec 32 := 0#32
  let v27 : BitVec 1 := Scalar.cmpi .ne v26 c0_i32_12
  let v28 : BitVec 1 := Scalar.andi v25 v27
  let v14 : BitVec 32 := Scalar.divsi v13 c3_i32_7
  let c1_i32 : BitVec 32 := 1#32
  let v29 : BitVec 32 := Scalar.subi v14 c1_i32
  let v30 : BitVec 32 := Scalar.select v28 v29 v14
  let v42 : BitVec 32 := Scalar.subi c31_i32 v30
  let c20_i32 : BitVec 32 := 20#32
  let c2_i32_19 : BitVec 32 := 2#32
  let v43 : BitVec 32 := Scalar.muli c2_i32_19 v30
  let v44 : BitVec 32 := Scalar.addi v43 v40
  let v45 : BitVec 32 := Scalar.subi c20_i32 v44
  let v46 : BitVec 32 := Scalar.select v41 v42 v45
  let c31_i32_21 : BitVec 32 := 31#32
  let v50 : BitVec 32 := Scalar.subi c31_i32_21 v12
  let v51 : BitVec 32 := Scalar.select v49 v46 v50
  let v52 : BitVec 32 := Scalar.select v47 v48 v51
  let c24_i32_25 : BitVec 32 := 24#32
  let v59 : BitVec 1 := Scalar.cmpi .slt v52 c24_i32_25
  let v60 : BitVec 32 := Scalar.extui v59
  let c0_i32_26 : BitVec 32 := 0#32
  let v61 : BitVec 1 := Scalar.cmpi .ne v60 c0_i32_26
  v61

def k0_off40 (i : grid0.Coords) : Fin 3 → Nat :=
  let arg0 : BitVec 32 := BitVec.ofNat 32 (i 0).val
  let c32_i32_6 : BitVec 32 := 32#32
  let v12 : BitVec 32 := Scalar.subi arg0 c32_i32_6
  let c3_i32_20 : BitVec 32 := 3#32
  let v47 : BitVec 1 := Scalar.cmpi .slt v12 c3_i32_20
  let c23_i32 : BitVec 32 := 23#32
  let v48 : BitVec 32 := Scalar.subi c23_i32 v12
  let c3_i32 : BitVec 32 := 3#32
  let v13 : BitVec 32 := Scalar.subi v12 c3_i32
  let c24_i32 : BitVec 32 := 24#32
  let v49 : BitVec 1 := Scalar.cmpi .slt v13 c24_i32
  let c3_i32_13 : BitVec 32 := 3#32
  let c0_i32_14 : BitVec 32 := 0#32
  let v31 : BitVec 1 := Scalar.cmpi .eq c3_i32_13 c0_i32_14
  let c1_i32_15 : BitVec 32 := 1#32
  let v32 : BitVec 32 := Scalar.select v31 c1_i32_15 c3_i32_13
  let v33 : BitVec 32 := Scalar.remsi v13 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c2_i32 : BitVec 32 := 2#32
  let v41 : BitVec 1 := Scalar.cmpi .eq v40 c2_i32
  let c31_i32 : BitVec 32 := 31#32
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c3_i32_7 : BitVec 32 := 3#32
  let c0_i32_10 : BitVec 32 := 0#32
  let v20 : BitVec 1 := Scalar.cmpi .sgt c3_i32_7 c0_i32_10
  let v21 : BitVec 32 := Scalar.extui v20
  let c0_i32_11 : BitVec 32 := 0#32
  let v22 : BitVec 1 := Scalar.cmpi .slt c3_i32_7 c0_i32_11
  let v23 : BitVec 32 := Scalar.extui v22
  let v24 : BitVec 32 := Scalar.subi v21 v23
  let v25 : BitVec 1 := Scalar.cmpi .ne v19 v24
  let v26 : BitVec 32 := Scalar.remsi v13 c3_i32_7
  let c0_i32_12 : BitVec 32 := 0#32
  let v27 : BitVec 1 := Scalar.cmpi .ne v26 c0_i32_12
  let v28 : BitVec 1 := Scalar.andi v25 v27
  let v14 : BitVec 32 := Scalar.divsi v13 c3_i32_7
  let c1_i32 : BitVec 32 := 1#32
  let v29 : BitVec 32 := Scalar.subi v14 c1_i32
  let v30 : BitVec 32 := Scalar.select v28 v29 v14
  let v42 : BitVec 32 := Scalar.subi c31_i32 v30
  let c20_i32 : BitVec 32 := 20#32
  let c2_i32_19 : BitVec 32 := 2#32
  let v43 : BitVec 32 := Scalar.muli c2_i32_19 v30
  let v44 : BitVec 32 := Scalar.addi v43 v40
  let v45 : BitVec 32 := Scalar.subi c20_i32 v44
  let v46 : BitVec 32 := Scalar.select v41 v42 v45
  let c31_i32_21 : BitVec 32 := 31#32
  let v50 : BitVec 32 := Scalar.subi c31_i32_21 v12
  let v51 : BitVec 32 := Scalar.select v49 v46 v50
  let v52 : BitVec 32 := Scalar.select v47 v48 v51
  let c3_i32_31 : BitVec 32 := 3#32
  let c0_i32_32 : BitVec 32 := 0#32
  let v68 : BitVec 1 := Scalar.cmpi .eq c3_i32_31 c0_i32_32
  let c1_i32_33 : BitVec 32 := 1#32
  let v69 : BitVec 32 := Scalar.select v68 c1_i32_33 c3_i32_31
  let v70 : BitVec 32 := Scalar.remsi v52 v69
  let c0_i32_35 : BitVec 32 := 0#32
  let v72 : BitVec 1 := Scalar.cmpi .slt v70 c0_i32_35
  let c0_i32_36 : BitVec 32 := 0#32
  let v73 : BitVec 1 := Scalar.cmpi .slt v69 c0_i32_36
  let v74 : BitVec 1 := Scalar.xori v72 v73
  let c0_i32_34 : BitVec 32 := 0#32
  let v71 : BitVec 1 := Scalar.cmpi .ne v70 c0_i32_34
  let v75 : BitVec 1 := Scalar.andi v74 v71
  let v76 : BitVec 32 := Scalar.addi v70 v69
  let v77 : BitVec 32 := Scalar.select v75 v76 v70
  let v78 : Index := Scalar.indexCast v77
  let c0 : Index := 0#32
  let c0_37 : Index := 0#32
  ![v78.toNat, 0, 0]
def k0_cond27 (i : grid0.Coords) : BitVec 1 :=
  let arg0 : BitVec 32 := BitVec.ofNat 32 (i 0).val
  let c32_i32_6 : BitVec 32 := 32#32
  let v12 : BitVec 32 := Scalar.subi arg0 c32_i32_6
  let c3_i32_20 : BitVec 32 := 3#32
  let v47 : BitVec 1 := Scalar.cmpi .slt v12 c3_i32_20
  let c23_i32 : BitVec 32 := 23#32
  let v48 : BitVec 32 := Scalar.subi c23_i32 v12
  let c3_i32 : BitVec 32 := 3#32
  let v13 : BitVec 32 := Scalar.subi v12 c3_i32
  let c24_i32 : BitVec 32 := 24#32
  let v49 : BitVec 1 := Scalar.cmpi .slt v13 c24_i32
  let c3_i32_13 : BitVec 32 := 3#32
  let c0_i32_14 : BitVec 32 := 0#32
  let v31 : BitVec 1 := Scalar.cmpi .eq c3_i32_13 c0_i32_14
  let c1_i32_15 : BitVec 32 := 1#32
  let v32 : BitVec 32 := Scalar.select v31 c1_i32_15 c3_i32_13
  let v33 : BitVec 32 := Scalar.remsi v13 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c2_i32 : BitVec 32 := 2#32
  let v41 : BitVec 1 := Scalar.cmpi .eq v40 c2_i32
  let c31_i32 : BitVec 32 := 31#32
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c3_i32_7 : BitVec 32 := 3#32
  let c0_i32_10 : BitVec 32 := 0#32
  let v20 : BitVec 1 := Scalar.cmpi .sgt c3_i32_7 c0_i32_10
  let v21 : BitVec 32 := Scalar.extui v20
  let c0_i32_11 : BitVec 32 := 0#32
  let v22 : BitVec 1 := Scalar.cmpi .slt c3_i32_7 c0_i32_11
  let v23 : BitVec 32 := Scalar.extui v22
  let v24 : BitVec 32 := Scalar.subi v21 v23
  let v25 : BitVec 1 := Scalar.cmpi .ne v19 v24
  let v26 : BitVec 32 := Scalar.remsi v13 c3_i32_7
  let c0_i32_12 : BitVec 32 := 0#32
  let v27 : BitVec 1 := Scalar.cmpi .ne v26 c0_i32_12
  let v28 : BitVec 1 := Scalar.andi v25 v27
  let v14 : BitVec 32 := Scalar.divsi v13 c3_i32_7
  let c1_i32 : BitVec 32 := 1#32
  let v29 : BitVec 32 := Scalar.subi v14 c1_i32
  let v30 : BitVec 32 := Scalar.select v28 v29 v14
  let v42 : BitVec 32 := Scalar.subi c31_i32 v30
  let c20_i32 : BitVec 32 := 20#32
  let c2_i32_19 : BitVec 32 := 2#32
  let v43 : BitVec 32 := Scalar.muli c2_i32_19 v30
  let v44 : BitVec 32 := Scalar.addi v43 v40
  let v45 : BitVec 32 := Scalar.subi c20_i32 v44
  let v46 : BitVec 32 := Scalar.select v41 v42 v45
  let c31_i32_21 : BitVec 32 := 31#32
  let v50 : BitVec 32 := Scalar.subi c31_i32_21 v12
  let v51 : BitVec 32 := Scalar.select v49 v46 v50
  let v52 : BitVec 32 := Scalar.select v47 v48 v51
  let c3_i32_27 : BitVec 32 := 3#32
  let v62 : BitVec 32 := Scalar.subi v52 c3_i32_27
  let c0_i32_28 : BitVec 32 := 0#32
  let v63 : BitVec 1 := Scalar.cmpi .sge v62 c0_i32_28
  let c21_i32_29 : BitVec 32 := 21#32
  let v64 : BitVec 1 := Scalar.cmpi .slt v62 c21_i32_29
  let v65 : BitVec 1 := Scalar.andi v63 v64
  let v66 : BitVec 32 := Scalar.extui v65
  let c0_i32_30 : BitVec 32 := 0#32
  let v67 : BitVec 1 := Scalar.cmpi .ne v66 c0_i32_30
  v67

def k0_cond28 (i : grid0.Coords) : BitVec 1 :=
  let arg0 : BitVec 32 := BitVec.ofNat 32 (i 0).val
  let c32_i32_6 : BitVec 32 := 32#32
  let v12 : BitVec 32 := Scalar.subi arg0 c32_i32_6
  let c3_i32_20 : BitVec 32 := 3#32
  let v47 : BitVec 1 := Scalar.cmpi .slt v12 c3_i32_20
  let c23_i32 : BitVec 32 := 23#32
  let v48 : BitVec 32 := Scalar.subi c23_i32 v12
  let c3_i32 : BitVec 32 := 3#32
  let v13 : BitVec 32 := Scalar.subi v12 c3_i32
  let c24_i32 : BitVec 32 := 24#32
  let v49 : BitVec 1 := Scalar.cmpi .slt v13 c24_i32
  let c3_i32_13 : BitVec 32 := 3#32
  let c0_i32_14 : BitVec 32 := 0#32
  let v31 : BitVec 1 := Scalar.cmpi .eq c3_i32_13 c0_i32_14
  let c1_i32_15 : BitVec 32 := 1#32
  let v32 : BitVec 32 := Scalar.select v31 c1_i32_15 c3_i32_13
  let v33 : BitVec 32 := Scalar.remsi v13 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c2_i32 : BitVec 32 := 2#32
  let v41 : BitVec 1 := Scalar.cmpi .eq v40 c2_i32
  let c31_i32 : BitVec 32 := 31#32
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c3_i32_7 : BitVec 32 := 3#32
  let c0_i32_10 : BitVec 32 := 0#32
  let v20 : BitVec 1 := Scalar.cmpi .sgt c3_i32_7 c0_i32_10
  let v21 : BitVec 32 := Scalar.extui v20
  let c0_i32_11 : BitVec 32 := 0#32
  let v22 : BitVec 1 := Scalar.cmpi .slt c3_i32_7 c0_i32_11
  let v23 : BitVec 32 := Scalar.extui v22
  let v24 : BitVec 32 := Scalar.subi v21 v23
  let v25 : BitVec 1 := Scalar.cmpi .ne v19 v24
  let v26 : BitVec 32 := Scalar.remsi v13 c3_i32_7
  let c0_i32_12 : BitVec 32 := 0#32
  let v27 : BitVec 1 := Scalar.cmpi .ne v26 c0_i32_12
  let v28 : BitVec 1 := Scalar.andi v25 v27
  let v14 : BitVec 32 := Scalar.divsi v13 c3_i32_7
  let c1_i32 : BitVec 32 := 1#32
  let v29 : BitVec 32 := Scalar.subi v14 c1_i32
  let v30 : BitVec 32 := Scalar.select v28 v29 v14
  let v42 : BitVec 32 := Scalar.subi c31_i32 v30
  let c20_i32 : BitVec 32 := 20#32
  let c2_i32_19 : BitVec 32 := 2#32
  let v43 : BitVec 32 := Scalar.muli c2_i32_19 v30
  let v44 : BitVec 32 := Scalar.addi v43 v40
  let v45 : BitVec 32 := Scalar.subi c20_i32 v44
  let v46 : BitVec 32 := Scalar.select v41 v42 v45
  let c31_i32_21 : BitVec 32 := 31#32
  let v50 : BitVec 32 := Scalar.subi c31_i32_21 v12
  let v51 : BitVec 32 := Scalar.select v49 v46 v50
  let v52 : BitVec 32 := Scalar.select v47 v48 v51
  let c3_i32_27 : BitVec 32 := 3#32
  let v62 : BitVec 32 := Scalar.subi v52 c3_i32_27
  let c24_i32_31 : BitVec 32 := 24#32
  let v68 : BitVec 1 := Scalar.cmpi .sge v62 c24_i32_31
  let v69 : BitVec 32 := Scalar.extui v68
  let c0_i32_32 : BitVec 32 := 0#32
  let v70 : BitVec 1 := Scalar.cmpi .ne v69 c0_i32_32
  v70

def k0_off41 (i : grid0.Coords) : Fin 1 → Nat :=
  let arg0 : BitVec 32 := BitVec.ofNat 32 (i 0).val
  let c32_i32_6 : BitVec 32 := 32#32
  let v12 : BitVec 32 := Scalar.subi arg0 c32_i32_6
  let c3_i32_20 : BitVec 32 := 3#32
  let v47 : BitVec 1 := Scalar.cmpi .slt v12 c3_i32_20
  let c23_i32 : BitVec 32 := 23#32
  let v48 : BitVec 32 := Scalar.subi c23_i32 v12
  let c3_i32 : BitVec 32 := 3#32
  let v13 : BitVec 32 := Scalar.subi v12 c3_i32
  let c24_i32 : BitVec 32 := 24#32
  let v49 : BitVec 1 := Scalar.cmpi .slt v13 c24_i32
  let c3_i32_13 : BitVec 32 := 3#32
  let c0_i32_14 : BitVec 32 := 0#32
  let v31 : BitVec 1 := Scalar.cmpi .eq c3_i32_13 c0_i32_14
  let c1_i32_15 : BitVec 32 := 1#32
  let v32 : BitVec 32 := Scalar.select v31 c1_i32_15 c3_i32_13
  let v33 : BitVec 32 := Scalar.remsi v13 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c2_i32 : BitVec 32 := 2#32
  let v41 : BitVec 1 := Scalar.cmpi .eq v40 c2_i32
  let c31_i32 : BitVec 32 := 31#32
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c3_i32_7 : BitVec 32 := 3#32
  let c0_i32_10 : BitVec 32 := 0#32
  let v20 : BitVec 1 := Scalar.cmpi .sgt c3_i32_7 c0_i32_10
  let v21 : BitVec 32 := Scalar.extui v20
  let c0_i32_11 : BitVec 32 := 0#32
  let v22 : BitVec 1 := Scalar.cmpi .slt c3_i32_7 c0_i32_11
  let v23 : BitVec 32 := Scalar.extui v22
  let v24 : BitVec 32 := Scalar.subi v21 v23
  let v25 : BitVec 1 := Scalar.cmpi .ne v19 v24
  let v26 : BitVec 32 := Scalar.remsi v13 c3_i32_7
  let c0_i32_12 : BitVec 32 := 0#32
  let v27 : BitVec 1 := Scalar.cmpi .ne v26 c0_i32_12
  let v28 : BitVec 1 := Scalar.andi v25 v27
  let v14 : BitVec 32 := Scalar.divsi v13 c3_i32_7
  let c1_i32 : BitVec 32 := 1#32
  let v29 : BitVec 32 := Scalar.subi v14 c1_i32
  let v30 : BitVec 32 := Scalar.select v28 v29 v14
  let v42 : BitVec 32 := Scalar.subi c31_i32 v30
  let c20_i32 : BitVec 32 := 20#32
  let c2_i32_19 : BitVec 32 := 2#32
  let v43 : BitVec 32 := Scalar.muli c2_i32_19 v30
  let v44 : BitVec 32 := Scalar.addi v43 v40
  let v45 : BitVec 32 := Scalar.subi c20_i32 v44
  let v46 : BitVec 32 := Scalar.select v41 v42 v45
  let c31_i32_21 : BitVec 32 := 31#32
  let v50 : BitVec 32 := Scalar.subi c31_i32_21 v12
  let v51 : BitVec 32 := Scalar.select v49 v46 v50
  let v52 : BitVec 32 := Scalar.select v47 v48 v51
  let c3_i32_27 : BitVec 32 := 3#32
  let v62 : BitVec 32 := Scalar.subi v52 c3_i32_27
  let c3_i32_36 : BitVec 32 := 3#32
  let c0_i32_37 : BitVec 32 := 0#32
  let v75 : BitVec 1 := Scalar.cmpi .eq c3_i32_36 c0_i32_37
  let c1_i32_38 : BitVec 32 := 1#32
  let v76 : BitVec 32 := Scalar.select v75 c1_i32_38 c3_i32_36
  let v77 : BitVec 32 := Scalar.remsi v62 v76
  let c0_i32_40 : BitVec 32 := 0#32
  let v79 : BitVec 1 := Scalar.cmpi .slt v77 c0_i32_40
  let c0_i32_41 : BitVec 32 := 0#32
  let v80 : BitVec 1 := Scalar.cmpi .slt v76 c0_i32_41
  let v81 : BitVec 1 := Scalar.xori v79 v80
  let c0_i32_39 : BitVec 32 := 0#32
  let v78 : BitVec 1 := Scalar.cmpi .ne v77 c0_i32_39
  let v82 : BitVec 1 := Scalar.andi v81 v78
  let v83 : BitVec 32 := Scalar.addi v77 v76
  let v84 : BitVec 32 := Scalar.select v82 v83 v77
  ![v84.toNat]
def k0_off42 (i : grid0.Coords) : Fin 3 → Nat :=
  let arg0 : BitVec 32 := BitVec.ofNat 32 (i 0).val
  let c32_i32_6 : BitVec 32 := 32#32
  let v12 : BitVec 32 := Scalar.subi arg0 c32_i32_6
  let c3_i32_20 : BitVec 32 := 3#32
  let v47 : BitVec 1 := Scalar.cmpi .slt v12 c3_i32_20
  let c23_i32 : BitVec 32 := 23#32
  let v48 : BitVec 32 := Scalar.subi c23_i32 v12
  let c3_i32 : BitVec 32 := 3#32
  let v13 : BitVec 32 := Scalar.subi v12 c3_i32
  let c24_i32 : BitVec 32 := 24#32
  let v49 : BitVec 1 := Scalar.cmpi .slt v13 c24_i32
  let c3_i32_13 : BitVec 32 := 3#32
  let c0_i32_14 : BitVec 32 := 0#32
  let v31 : BitVec 1 := Scalar.cmpi .eq c3_i32_13 c0_i32_14
  let c1_i32_15 : BitVec 32 := 1#32
  let v32 : BitVec 32 := Scalar.select v31 c1_i32_15 c3_i32_13
  let v33 : BitVec 32 := Scalar.remsi v13 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c2_i32 : BitVec 32 := 2#32
  let v41 : BitVec 1 := Scalar.cmpi .eq v40 c2_i32
  let c31_i32 : BitVec 32 := 31#32
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c3_i32_7 : BitVec 32 := 3#32
  let c0_i32_10 : BitVec 32 := 0#32
  let v20 : BitVec 1 := Scalar.cmpi .sgt c3_i32_7 c0_i32_10
  let v21 : BitVec 32 := Scalar.extui v20
  let c0_i32_11 : BitVec 32 := 0#32
  let v22 : BitVec 1 := Scalar.cmpi .slt c3_i32_7 c0_i32_11
  let v23 : BitVec 32 := Scalar.extui v22
  let v24 : BitVec 32 := Scalar.subi v21 v23
  let v25 : BitVec 1 := Scalar.cmpi .ne v19 v24
  let v26 : BitVec 32 := Scalar.remsi v13 c3_i32_7
  let c0_i32_12 : BitVec 32 := 0#32
  let v27 : BitVec 1 := Scalar.cmpi .ne v26 c0_i32_12
  let v28 : BitVec 1 := Scalar.andi v25 v27
  let v14 : BitVec 32 := Scalar.divsi v13 c3_i32_7
  let c1_i32 : BitVec 32 := 1#32
  let v29 : BitVec 32 := Scalar.subi v14 c1_i32
  let v30 : BitVec 32 := Scalar.select v28 v29 v14
  let v42 : BitVec 32 := Scalar.subi c31_i32 v30
  let c20_i32 : BitVec 32 := 20#32
  let c2_i32_19 : BitVec 32 := 2#32
  let v43 : BitVec 32 := Scalar.muli c2_i32_19 v30
  let v44 : BitVec 32 := Scalar.addi v43 v40
  let v45 : BitVec 32 := Scalar.subi c20_i32 v44
  let v46 : BitVec 32 := Scalar.select v41 v42 v45
  let c31_i32_21 : BitVec 32 := 31#32
  let v50 : BitVec 32 := Scalar.subi c31_i32_21 v12
  let v51 : BitVec 32 := Scalar.select v49 v46 v50
  let v52 : BitVec 32 := Scalar.select v47 v48 v51
  let c3_i32_27 : BitVec 32 := 3#32
  let v62 : BitVec 32 := Scalar.subi v52 c3_i32_27
  let c24_i32_35 : BitVec 32 := 24#32
  let v74 : BitVec 32 := Scalar.subi v62 c24_i32_35
  let c0_i32_42 : BitVec 32 := 0#32
  let c0_i32_43 : BitVec 32 := 0#32
  ![v74.toNat, 0, 0]
def k0_off43 (i : grid0.Coords) : Fin 2 → Nat :=
  let arg0 : BitVec 32 := BitVec.ofNat 32 (i 0).val
  let c32_i32_6 : BitVec 32 := 32#32
  let v12 : BitVec 32 := Scalar.subi arg0 c32_i32_6
  let c3_i32_20 : BitVec 32 := 3#32
  let v47 : BitVec 1 := Scalar.cmpi .slt v12 c3_i32_20
  let c23_i32 : BitVec 32 := 23#32
  let v48 : BitVec 32 := Scalar.subi c23_i32 v12
  let c3_i32 : BitVec 32 := 3#32
  let v13 : BitVec 32 := Scalar.subi v12 c3_i32
  let c24_i32 : BitVec 32 := 24#32
  let v49 : BitVec 1 := Scalar.cmpi .slt v13 c24_i32
  let c3_i32_13 : BitVec 32 := 3#32
  let c0_i32_14 : BitVec 32 := 0#32
  let v31 : BitVec 1 := Scalar.cmpi .eq c3_i32_13 c0_i32_14
  let c1_i32_15 : BitVec 32 := 1#32
  let v32 : BitVec 32 := Scalar.select v31 c1_i32_15 c3_i32_13
  let v33 : BitVec 32 := Scalar.remsi v13 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c2_i32 : BitVec 32 := 2#32
  let v41 : BitVec 1 := Scalar.cmpi .eq v40 c2_i32
  let c31_i32 : BitVec 32 := 31#32
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c3_i32_7 : BitVec 32 := 3#32
  let c0_i32_10 : BitVec 32 := 0#32
  let v20 : BitVec 1 := Scalar.cmpi .sgt c3_i32_7 c0_i32_10
  let v21 : BitVec 32 := Scalar.extui v20
  let c0_i32_11 : BitVec 32 := 0#32
  let v22 : BitVec 1 := Scalar.cmpi .slt c3_i32_7 c0_i32_11
  let v23 : BitVec 32 := Scalar.extui v22
  let v24 : BitVec 32 := Scalar.subi v21 v23
  let v25 : BitVec 1 := Scalar.cmpi .ne v19 v24
  let v26 : BitVec 32 := Scalar.remsi v13 c3_i32_7
  let c0_i32_12 : BitVec 32 := 0#32
  let v27 : BitVec 1 := Scalar.cmpi .ne v26 c0_i32_12
  let v28 : BitVec 1 := Scalar.andi v25 v27
  let v14 : BitVec 32 := Scalar.divsi v13 c3_i32_7
  let c1_i32 : BitVec 32 := 1#32
  let v29 : BitVec 32 := Scalar.subi v14 c1_i32
  let v30 : BitVec 32 := Scalar.select v28 v29 v14
  let v42 : BitVec 32 := Scalar.subi c31_i32 v30
  let c20_i32 : BitVec 32 := 20#32
  let c2_i32_19 : BitVec 32 := 2#32
  let v43 : BitVec 32 := Scalar.muli c2_i32_19 v30
  let v44 : BitVec 32 := Scalar.addi v43 v40
  let v45 : BitVec 32 := Scalar.subi c20_i32 v44
  let v46 : BitVec 32 := Scalar.select v41 v42 v45
  let c31_i32_21 : BitVec 32 := 31#32
  let v50 : BitVec 32 := Scalar.subi c31_i32_21 v12
  let v51 : BitVec 32 := Scalar.select v49 v46 v50
  let v52 : BitVec 32 := Scalar.select v47 v48 v51
  let c3_i32_27 : BitVec 32 := 3#32
  let v62 : BitVec 32 := Scalar.subi v52 c3_i32_27
  let c512_i32 : BitVec 32 := 512#32
  let v85 : BitVec 32 := Scalar.muli v62 c512_i32
  let c0_i32_44 : BitVec 32 := 0#32
  ![v85.toNat, 0]
def k0_cond29 (i : grid0.Coords) : BitVec 1 :=
  let arg0 : BitVec 32 := BitVec.ofNat 32 (i 0).val
  let c32_i32_6 : BitVec 32 := 32#32
  let v12 : BitVec 32 := Scalar.subi arg0 c32_i32_6
  let c3_i32_20 : BitVec 32 := 3#32
  let v47 : BitVec 1 := Scalar.cmpi .slt v12 c3_i32_20
  let c23_i32 : BitVec 32 := 23#32
  let v48 : BitVec 32 := Scalar.subi c23_i32 v12
  let c3_i32 : BitVec 32 := 3#32
  let v13 : BitVec 32 := Scalar.subi v12 c3_i32
  let c24_i32 : BitVec 32 := 24#32
  let v49 : BitVec 1 := Scalar.cmpi .slt v13 c24_i32
  let c3_i32_13 : BitVec 32 := 3#32
  let c0_i32_14 : BitVec 32 := 0#32
  let v31 : BitVec 1 := Scalar.cmpi .eq c3_i32_13 c0_i32_14
  let c1_i32_15 : BitVec 32 := 1#32
  let v32 : BitVec 32 := Scalar.select v31 c1_i32_15 c3_i32_13
  let v33 : BitVec 32 := Scalar.remsi v13 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c2_i32 : BitVec 32 := 2#32
  let v41 : BitVec 1 := Scalar.cmpi .eq v40 c2_i32
  let c31_i32 : BitVec 32 := 31#32
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c3_i32_7 : BitVec 32 := 3#32
  let c0_i32_10 : BitVec 32 := 0#32
  let v20 : BitVec 1 := Scalar.cmpi .sgt c3_i32_7 c0_i32_10
  let v21 : BitVec 32 := Scalar.extui v20
  let c0_i32_11 : BitVec 32 := 0#32
  let v22 : BitVec 1 := Scalar.cmpi .slt c3_i32_7 c0_i32_11
  let v23 : BitVec 32 := Scalar.extui v22
  let v24 : BitVec 32 := Scalar.subi v21 v23
  let v25 : BitVec 1 := Scalar.cmpi .ne v19 v24
  let v26 : BitVec 32 := Scalar.remsi v13 c3_i32_7
  let c0_i32_12 : BitVec 32 := 0#32
  let v27 : BitVec 1 := Scalar.cmpi .ne v26 c0_i32_12
  let v28 : BitVec 1 := Scalar.andi v25 v27
  let v14 : BitVec 32 := Scalar.divsi v13 c3_i32_7
  let c1_i32 : BitVec 32 := 1#32
  let v29 : BitVec 32 := Scalar.subi v14 c1_i32
  let v30 : BitVec 32 := Scalar.select v28 v29 v14
  let v42 : BitVec 32 := Scalar.subi c31_i32 v30
  let c20_i32 : BitVec 32 := 20#32
  let c2_i32_19 : BitVec 32 := 2#32
  let v43 : BitVec 32 := Scalar.muli c2_i32_19 v30
  let v44 : BitVec 32 := Scalar.addi v43 v40
  let v45 : BitVec 32 := Scalar.subi c20_i32 v44
  let v46 : BitVec 32 := Scalar.select v41 v42 v45
  let c31_i32_21 : BitVec 32 := 31#32
  let v50 : BitVec 32 := Scalar.subi c31_i32_21 v12
  let v51 : BitVec 32 := Scalar.select v49 v46 v50
  let v52 : BitVec 32 := Scalar.select v47 v48 v51
  let c3_i32_27 : BitVec 32 := 3#32
  let v62 : BitVec 32 := Scalar.subi v52 c3_i32_27
  let c24_i32_33 : BitVec 32 := 24#32
  let v71 : BitVec 1 := Scalar.cmpi .slt v62 c24_i32_33
  let v72 : BitVec 32 := Scalar.extui v71
  let c0_i32_34 : BitVec 32 := 0#32
  let v73 : BitVec 1 := Scalar.cmpi .ne v72 c0_i32_34
  v73

def k0_off44 (i : grid0.Coords) : Fin 1 → Nat :=
  let arg0 : BitVec 32 := BitVec.ofNat 32 (i 0).val
  let c32_i32_6 : BitVec 32 := 32#32
  let v12 : BitVec 32 := Scalar.subi arg0 c32_i32_6
  let c3_i32_20 : BitVec 32 := 3#32
  let v47 : BitVec 1 := Scalar.cmpi .slt v12 c3_i32_20
  let c23_i32 : BitVec 32 := 23#32
  let v48 : BitVec 32 := Scalar.subi c23_i32 v12
  let c3_i32 : BitVec 32 := 3#32
  let v13 : BitVec 32 := Scalar.subi v12 c3_i32
  let c24_i32 : BitVec 32 := 24#32
  let v49 : BitVec 1 := Scalar.cmpi .slt v13 c24_i32
  let c3_i32_13 : BitVec 32 := 3#32
  let c0_i32_14 : BitVec 32 := 0#32
  let v31 : BitVec 1 := Scalar.cmpi .eq c3_i32_13 c0_i32_14
  let c1_i32_15 : BitVec 32 := 1#32
  let v32 : BitVec 32 := Scalar.select v31 c1_i32_15 c3_i32_13
  let v33 : BitVec 32 := Scalar.remsi v13 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c2_i32 : BitVec 32 := 2#32
  let v41 : BitVec 1 := Scalar.cmpi .eq v40 c2_i32
  let c31_i32 : BitVec 32 := 31#32
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c3_i32_7 : BitVec 32 := 3#32
  let c0_i32_10 : BitVec 32 := 0#32
  let v20 : BitVec 1 := Scalar.cmpi .sgt c3_i32_7 c0_i32_10
  let v21 : BitVec 32 := Scalar.extui v20
  let c0_i32_11 : BitVec 32 := 0#32
  let v22 : BitVec 1 := Scalar.cmpi .slt c3_i32_7 c0_i32_11
  let v23 : BitVec 32 := Scalar.extui v22
  let v24 : BitVec 32 := Scalar.subi v21 v23
  let v25 : BitVec 1 := Scalar.cmpi .ne v19 v24
  let v26 : BitVec 32 := Scalar.remsi v13 c3_i32_7
  let c0_i32_12 : BitVec 32 := 0#32
  let v27 : BitVec 1 := Scalar.cmpi .ne v26 c0_i32_12
  let v28 : BitVec 1 := Scalar.andi v25 v27
  let v14 : BitVec 32 := Scalar.divsi v13 c3_i32_7
  let c1_i32 : BitVec 32 := 1#32
  let v29 : BitVec 32 := Scalar.subi v14 c1_i32
  let v30 : BitVec 32 := Scalar.select v28 v29 v14
  let v42 : BitVec 32 := Scalar.subi c31_i32 v30
  let c20_i32 : BitVec 32 := 20#32
  let c2_i32_19 : BitVec 32 := 2#32
  let v43 : BitVec 32 := Scalar.muli c2_i32_19 v30
  let v44 : BitVec 32 := Scalar.addi v43 v40
  let v45 : BitVec 32 := Scalar.subi c20_i32 v44
  let v46 : BitVec 32 := Scalar.select v41 v42 v45
  let c31_i32_21 : BitVec 32 := 31#32
  let v50 : BitVec 32 := Scalar.subi c31_i32_21 v12
  let v51 : BitVec 32 := Scalar.select v49 v46 v50
  let v52 : BitVec 32 := Scalar.select v47 v48 v51
  let c3_i32_27 : BitVec 32 := 3#32
  let v62 : BitVec 32 := Scalar.subi v52 c3_i32_27
  let c3_i32_41 : BitVec 32 := 3#32
  let c0_i32_42 : BitVec 32 := 0#32
  let v84 : BitVec 1 := Scalar.cmpi .eq c3_i32_41 c0_i32_42
  let c1_i32_43 : BitVec 32 := 1#32
  let v85 : BitVec 32 := Scalar.select v84 c1_i32_43 c3_i32_41
  let v86 : BitVec 32 := Scalar.remsi v62 v85
  let c0_i32_45 : BitVec 32 := 0#32
  let v88 : BitVec 1 := Scalar.cmpi .slt v86 c0_i32_45
  let c0_i32_46 : BitVec 32 := 0#32
  let v89 : BitVec 1 := Scalar.cmpi .slt v85 c0_i32_46
  let v90 : BitVec 1 := Scalar.xori v88 v89
  let c0_i32_44 : BitVec 32 := 0#32
  let v87 : BitVec 1 := Scalar.cmpi .ne v86 c0_i32_44
  let v91 : BitVec 1 := Scalar.andi v90 v87
  let v92 : BitVec 32 := Scalar.addi v86 v85
  let v93 : BitVec 32 := Scalar.select v91 v92 v86
  ![v93.toNat]
def k0_off45 (i : grid0.Coords) : Fin 3 → Nat :=
  let arg0 : BitVec 32 := BitVec.ofNat 32 (i 0).val
  let c32_i32_6 : BitVec 32 := 32#32
  let v12 : BitVec 32 := Scalar.subi arg0 c32_i32_6
  let c3_i32_20 : BitVec 32 := 3#32
  let v47 : BitVec 1 := Scalar.cmpi .slt v12 c3_i32_20
  let c23_i32 : BitVec 32 := 23#32
  let v48 : BitVec 32 := Scalar.subi c23_i32 v12
  let c3_i32 : BitVec 32 := 3#32
  let v13 : BitVec 32 := Scalar.subi v12 c3_i32
  let c24_i32 : BitVec 32 := 24#32
  let v49 : BitVec 1 := Scalar.cmpi .slt v13 c24_i32
  let c3_i32_13 : BitVec 32 := 3#32
  let c0_i32_14 : BitVec 32 := 0#32
  let v31 : BitVec 1 := Scalar.cmpi .eq c3_i32_13 c0_i32_14
  let c1_i32_15 : BitVec 32 := 1#32
  let v32 : BitVec 32 := Scalar.select v31 c1_i32_15 c3_i32_13
  let v33 : BitVec 32 := Scalar.remsi v13 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c2_i32 : BitVec 32 := 2#32
  let v41 : BitVec 1 := Scalar.cmpi .eq v40 c2_i32
  let c31_i32 : BitVec 32 := 31#32
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c3_i32_7 : BitVec 32 := 3#32
  let c0_i32_10 : BitVec 32 := 0#32
  let v20 : BitVec 1 := Scalar.cmpi .sgt c3_i32_7 c0_i32_10
  let v21 : BitVec 32 := Scalar.extui v20
  let c0_i32_11 : BitVec 32 := 0#32
  let v22 : BitVec 1 := Scalar.cmpi .slt c3_i32_7 c0_i32_11
  let v23 : BitVec 32 := Scalar.extui v22
  let v24 : BitVec 32 := Scalar.subi v21 v23
  let v25 : BitVec 1 := Scalar.cmpi .ne v19 v24
  let v26 : BitVec 32 := Scalar.remsi v13 c3_i32_7
  let c0_i32_12 : BitVec 32 := 0#32
  let v27 : BitVec 1 := Scalar.cmpi .ne v26 c0_i32_12
  let v28 : BitVec 1 := Scalar.andi v25 v27
  let v14 : BitVec 32 := Scalar.divsi v13 c3_i32_7
  let c1_i32 : BitVec 32 := 1#32
  let v29 : BitVec 32 := Scalar.subi v14 c1_i32
  let v30 : BitVec 32 := Scalar.select v28 v29 v14
  let v42 : BitVec 32 := Scalar.subi c31_i32 v30
  let c20_i32 : BitVec 32 := 20#32
  let c2_i32_19 : BitVec 32 := 2#32
  let v43 : BitVec 32 := Scalar.muli c2_i32_19 v30
  let v44 : BitVec 32 := Scalar.addi v43 v40
  let v45 : BitVec 32 := Scalar.subi c20_i32 v44
  let v46 : BitVec 32 := Scalar.select v41 v42 v45
  let c31_i32_21 : BitVec 32 := 31#32
  let v50 : BitVec 32 := Scalar.subi c31_i32_21 v12
  let v51 : BitVec 32 := Scalar.select v49 v46 v50
  let v52 : BitVec 32 := Scalar.select v47 v48 v51
  let c3_i32_27 : BitVec 32 := 3#32
  let v62 : BitVec 32 := Scalar.subi v52 c3_i32_27
  let c3_i32_35 : BitVec 32 := 3#32
  let c0_i32_36 : BitVec 32 := 0#32
  let v74 : BitVec 1 := Scalar.cmpi .eq c3_i32_35 c0_i32_36
  let c1_i32_37 : BitVec 32 := 1#32
  let v75 : BitVec 32 := Scalar.select v74 c1_i32_37 c3_i32_35
  let v76 : BitVec 32 := Scalar.remsi v62 v75
  let c0_i32_39 : BitVec 32 := 0#32
  let v78 : BitVec 1 := Scalar.cmpi .slt v76 c0_i32_39
  let c0_i32_40 : BitVec 32 := 0#32
  let v79 : BitVec 1 := Scalar.cmpi .slt v75 c0_i32_40
  let v80 : BitVec 1 := Scalar.xori v78 v79
  let c0_i32_38 : BitVec 32 := 0#32
  let v77 : BitVec 1 := Scalar.cmpi .ne v76 c0_i32_38
  let v81 : BitVec 1 := Scalar.andi v80 v77
  let v82 : BitVec 32 := Scalar.addi v76 v75
  let v83 : BitVec 32 := Scalar.select v81 v82 v76
  let c0_i32_47 : BitVec 32 := 0#32
  let c0_i32_48 : BitVec 32 := 0#32
  ![v83.toNat, 0, 0]
def k0_off46 (i : grid0.Coords) : Fin 2 → Nat :=
  let arg0 : BitVec 32 := BitVec.ofNat 32 (i 0).val
  let c32_i32_6 : BitVec 32 := 32#32
  let v12 : BitVec 32 := Scalar.subi arg0 c32_i32_6
  let c3_i32_20 : BitVec 32 := 3#32
  let v47 : BitVec 1 := Scalar.cmpi .slt v12 c3_i32_20
  let c23_i32 : BitVec 32 := 23#32
  let v48 : BitVec 32 := Scalar.subi c23_i32 v12
  let c3_i32 : BitVec 32 := 3#32
  let v13 : BitVec 32 := Scalar.subi v12 c3_i32
  let c24_i32 : BitVec 32 := 24#32
  let v49 : BitVec 1 := Scalar.cmpi .slt v13 c24_i32
  let c3_i32_13 : BitVec 32 := 3#32
  let c0_i32_14 : BitVec 32 := 0#32
  let v31 : BitVec 1 := Scalar.cmpi .eq c3_i32_13 c0_i32_14
  let c1_i32_15 : BitVec 32 := 1#32
  let v32 : BitVec 32 := Scalar.select v31 c1_i32_15 c3_i32_13
  let v33 : BitVec 32 := Scalar.remsi v13 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c2_i32 : BitVec 32 := 2#32
  let v41 : BitVec 1 := Scalar.cmpi .eq v40 c2_i32
  let c31_i32 : BitVec 32 := 31#32
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c3_i32_7 : BitVec 32 := 3#32
  let c0_i32_10 : BitVec 32 := 0#32
  let v20 : BitVec 1 := Scalar.cmpi .sgt c3_i32_7 c0_i32_10
  let v21 : BitVec 32 := Scalar.extui v20
  let c0_i32_11 : BitVec 32 := 0#32
  let v22 : BitVec 1 := Scalar.cmpi .slt c3_i32_7 c0_i32_11
  let v23 : BitVec 32 := Scalar.extui v22
  let v24 : BitVec 32 := Scalar.subi v21 v23
  let v25 : BitVec 1 := Scalar.cmpi .ne v19 v24
  let v26 : BitVec 32 := Scalar.remsi v13 c3_i32_7
  let c0_i32_12 : BitVec 32 := 0#32
  let v27 : BitVec 1 := Scalar.cmpi .ne v26 c0_i32_12
  let v28 : BitVec 1 := Scalar.andi v25 v27
  let v14 : BitVec 32 := Scalar.divsi v13 c3_i32_7
  let c1_i32 : BitVec 32 := 1#32
  let v29 : BitVec 32 := Scalar.subi v14 c1_i32
  let v30 : BitVec 32 := Scalar.select v28 v29 v14
  let v42 : BitVec 32 := Scalar.subi c31_i32 v30
  let c20_i32 : BitVec 32 := 20#32
  let c2_i32_19 : BitVec 32 := 2#32
  let v43 : BitVec 32 := Scalar.muli c2_i32_19 v30
  let v44 : BitVec 32 := Scalar.addi v43 v40
  let v45 : BitVec 32 := Scalar.subi c20_i32 v44
  let v46 : BitVec 32 := Scalar.select v41 v42 v45
  let c31_i32_21 : BitVec 32 := 31#32
  let v50 : BitVec 32 := Scalar.subi c31_i32_21 v12
  let v51 : BitVec 32 := Scalar.select v49 v46 v50
  let v52 : BitVec 32 := Scalar.select v47 v48 v51
  let c3_i32_27 : BitVec 32 := 3#32
  let v62 : BitVec 32 := Scalar.subi v52 c3_i32_27
  let c512_i32 : BitVec 32 := 512#32
  let v94 : BitVec 32 := Scalar.muli v62 c512_i32
  let c0_i32_49 : BitVec 32 := 0#32
  ![v94.toNat, 0]
def cc0_transform_1 (i : grid0.Coords) : Fin 2 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c3_i32 : BitVec 32 := 3#32
  let v2 : BitVec 32 := Scalar.subi v1 c3_i32
  let c3_i32_1 : BitVec 32 := 3#32
  let v3 : BitVec 32 := Scalar.divsi v2 c3_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c3_i32_1 c0_i32_3
  let v10 : BitVec 32 := Scalar.extui v9
  let c0_i32_4 : BitVec 32 := 0#32
  let v11 : BitVec 1 := Scalar.cmpi .slt c3_i32_1 c0_i32_4
  let v12 : BitVec 32 := Scalar.extui v11
  let v13 : BitVec 32 := Scalar.subi v10 v12
  let v14 : BitVec 1 := Scalar.cmpi .ne v8 v13
  let v15 : BitVec 32 := Scalar.remsi v2 c3_i32_1
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c3_i32_6 : BitVec 32 := 3#32
  let c0_i32_7 : BitVec 32 := 0#32
  let v20 : BitVec 1 := Scalar.cmpi .eq c3_i32_6 c0_i32_7
  let c1_i32_8 : BitVec 32 := 1#32
  let v21 : BitVec 32 := Scalar.select v20 c1_i32_8 c3_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .eq v29 c2_i32
  let c31_i32 : BitVec 32 := 31#32
  let v31 : BitVec 32 := Scalar.subi c31_i32 v19
  let c2_i32_12 : BitVec 32 := 2#32
  let v32 : BitVec 32 := Scalar.muli c2_i32_12 v19
  let v33 : BitVec 32 := Scalar.addi v32 v29
  let c20_i32 : BitVec 32 := 20#32
  let v34 : BitVec 32 := Scalar.subi c20_i32 v33
  let v35 : BitVec 32 := Scalar.select v30 v31 v34
  let c3_i32_13 : BitVec 32 := 3#32
  let v36 : BitVec 1 := Scalar.cmpi .slt v1 c3_i32_13
  let c23_i32 : BitVec 32 := 23#32
  let v37 : BitVec 32 := Scalar.subi c23_i32 v1
  let c24_i32 : BitVec 32 := 24#32
  let v38 : BitVec 1 := Scalar.cmpi .slt v2 c24_i32
  let c31_i32_14 : BitVec 32 := 31#32
  let v39 : BitVec 32 := Scalar.subi c31_i32_14 v1
  let v40 : BitVec 32 := Scalar.select v38 v35 v39
  let v41 : BitVec 32 := Scalar.select v36 v37 v40
  let c23_i32_15 : BitVec 32 := 23#32
  let v42 : BitVec 32 := Scalar.select v0 c23_i32_15 v41
  let c0_i32_16 : BitVec 32 := 0#32
  let c0_i32_17 : BitVec 32 := 0#32
  ![v42.toNat, c0_i32_16.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== ReferenceIdeal.lean ====
abbrev S16384x2048 : Shape := ⟨2, ![16384, 2048]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_cst_2 : Ref sig .tc := ⟨.hbm, 7, rfl⟩
abbrev main_v3 : Ref sig .tc := ⟨.hbm, 8, rfl⟩
abbrev main_v4 : Ref sig .tc := ⟨.hbm, 9, rfl⟩
abbrev main_cst_3 : Ref sig .tc := ⟨.hbm, 10, rfl⟩
abbrev main_v5 : Ref sig .tc := ⟨.hbm, 11, rfl⟩
abbrev main_cst_4 : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_5 : Ref sig .tc := ⟨.hbm, 18, rfl⟩
abbrev main_cst_6 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_7 : Ref sig .tc := ⟨.hbm, 31, rfl⟩
abbrev main_cst_8 : Ref sig .tc := ⟨.hbm, 32, rfl⟩
abbrev main_call4_v0 : Ref sig .tc := ⟨.hbm, 33, rfl⟩
abbrev main_call4_v1 : Ref sig .tc := ⟨.hbm, 34, rfl⟩
abbrev main_call4_v2 : Ref sig .tc := ⟨.hbm, 35, rfl⟩
abbrev main_call4_v3 : Ref sig .tc := ⟨.hbm, 36, rfl⟩
abbrev main_call4_v4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]
-- ==== Proof.Slots.lean ====
/-
  The names the kernel's proof uses for the pieces of memory the body touches — block `b` of the input, slot `s` of the
  streaming buffer, slot `k` of the cache, semaphore `s` —, the order in which the blocks are written, and, at each grid
  point, the body's branch conditions and computed offsets in those names.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.Routed
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The pieces of memory -/

abbrev xM : Memref sig .tc .hbm S16384x2048 .f32 := Memref.whole main_arg0
abbrev bufM : Memref sig .tc .vmem S3x512x2048 .f32 := Memref.whole cc0_scratch0
abbrev cacheM : Memref sig .tc .vmem S8x512x2048 .f32 := Memref.whole cc0_scratch1
abbrev mnM : Memref sig .tc .vmem S8x2048 .f32 := Memref.whole cc0_scratch2
abbrev mxM : Memref sig .tc .vmem S8x2048 .f32 := Memref.whole cc0_scratch3
abbrev scM : Memref sig .tc .smem S2 .f32 := Memref.whole cc0_scratch4

abbrev blkOff (b : Fin 32) : Fin 2 → Nat := ![512 * b.val, 0]
abbrev bufOff (s : Fin 3) : Fin 3 → Nat := ![s.val, 0, 0]
abbrev cacheOff (k : Fin 8) : Fin 3 → Nat := ![k.val, 0, 0]
abbrev semOff (s : Fin 3) : Fin 1 → Nat := ![s.val]

theorem blkOff_inb : ∀ (b : Fin 32) (a), blkOff b a + S512x2048.size a ≤ S16384x2048.size a := by decide +kernel
theorem bufOff_inb : ∀ (s : Fin 3) (a), bufOff s a + S1x512x2048.size a ≤ S3x512x2048.size a := by decide +kernel
theorem cacheOff_inb : ∀ (k : Fin 8) (a), cacheOff k a + S1x512x2048.size a ≤ S8x512x2048.size a := by decide +kernel
theorem semOff_inb : ∀ (s : Fin 3) (a), semOff s a + S1.size a ≤ S3.size a := by decide +kernel

/-- Rows `512 b … 512 b + 511` of the input. -/
def xblk (b : Fin 32) : Memref sig .tc .hbm S512x2048 .f32 :=
  xM.slice (Rect.unit (s := S16384x2048) (blkOff b) S512x2048.size (blkOff_inb b)) (fun _ => rfl)
/-- Slot `s` of the streaming buffer. -/
def bslot (s : Fin 3) : Memref sig .tc .vmem S512x2048 .f32 :=
  (bufM.slice (Rect.unit (s := S3x512x2048) (bufOff s) S1x512x2048.size (bufOff_inb s)) (fun _ => rfl)).squeeze S512x2048 squeezes_S1x512x2048_S512x2048
/-- Slot `k` of the cache. -/
def cslot (k : Fin 8) : Memref sig .tc .vmem S512x2048 .f32 :=
  (cacheM.slice (Rect.unit (s := S8x512x2048) (cacheOff k) S1x512x2048.size (cacheOff_inb k)) (fun _ => rfl)).squeeze S512x2048 squeezes_S1x512x2048_S512x2048
/-- Semaphore `s`. -/
def csem (s : Fin 3) : DmaSems sig S_ :=
  (cc0_scratch5.slice (Rect.unit (s := S3) (semOff s) S1.size (semOff_inb s))).squeeze S_ squeezes_S1_S_

/-- The whole slot `s` as the body loads it from the streaming buffer; -/
abbrev bRect (s : Fin 3) : Rect S3x512x2048 := Rect.unit (s := S3x512x2048) (bufOff s) S1x512x2048.size (bufOff_inb s)
/-- the whole slot `k` as it loads it from the cache. -/
abbrev cRect (k : Fin 8) : Rect S8x512x2048 := Rect.unit (s := S8x512x2048) (cacheOff k) S1x512x2048.size (cacheOff_inb k)

theorem csem_eq {off : Fin 1 → Nat} {s : Fin 3} (e : off = semOff s) (hh) :
    (cc0_scratch5.slice (Rect.unit (s := S3) off S1.size hh)).squeeze S_ squeezes_S1_S_ = csem s := by subst e; rfl
theorem bslot_eq {off : Fin 3 → Nat} {s : Fin 3} (e : off = bufOff s) (hh hs) :
    (bufM.slice (Rect.unit (s := S3x512x2048) off S1x512x2048.size hh) hs).squeeze S512x2048 squeezes_S1x512x2048_S512x2048 = bslot s := by subst e; rfl
theorem cslot_eq {off : Fin 3 → Nat} {k : Fin 8} (e : off = cacheOff k) (hh hs) :
    (cacheM.slice (Rect.unit (s := S8x512x2048) off S1x512x2048.size hh) hs).squeeze S512x2048 squeezes_S1x512x2048_S512x2048 = cslot k := by subst e; rfl
theorem xblk_eq {off : Fin 2 → Nat} {b : Fin 32} (e : off = blkOff b) (hh hs) :
    xM.slice (Rect.unit (s := S16384x2048) off S512x2048.size hh) hs = xblk b := by subst e; rfl

/-! ## The order of the writes -/

/-- The block written at grid point `n ≥ 32`. -/
def tgt (n : ℕ) : ℕ :=
  if n < 35 then 55 - n
  else if n < 59 then (if (n - 35) % 3 = 2 then 31 - (n - 35) / 3 else 20 - (2 * ((n - 35) / 3) + (n - 35) % 3))
  else 63 - n

/-! ## The branch conditions -/

abbrev pt (i : grid0.Coords) : ℕ := (i 0).val

theorem cond1 : ∀ i : grid0.Coords, k0_cond1 i = 1#1 ↔ pt i = 0 := by decide +kernel
theorem cond2 : ¬ k0_cond2 = 1#1 := by decide +kernel
theorem cond3 : k0_cond3 = 1#1 := by decide +kernel
theorem cond4 : ¬ k0_cond4 = 1#1 := by decide +kernel
theorem cond5 : k0_cond5 = 1#1 := by decide +kernel
theorem cond6 : ¬ k0_cond6 = 1#1 := by decide +kernel
theorem cond7 : k0_cond7 = 1#1 := by decide +kernel
theorem cond8 : ∀ i : grid0.Coords, k0_cond8 i = 1#1 ↔ pt i < 32 := by decide +kernel
theorem cond9 : ∀ i : grid0.Coords, k0_cond9 i = 1#1 ↔ 24 ≤ pt i := by decide +kernel
theorem cond10 : ∀ i : grid0.Coords, k0_cond10 i = 1#1 ↔ pt i < 24 := by decide +kernel
theorem cond11 : ∀ i : grid0.Coords, k0_cond11 i = 1#1 ↔ 24 ≤ pt i := by decide +kernel
theorem cond14 : ∀ i : grid0.Coords, k0_cond14 i = 1#1 ↔ pt i < 24 := by decide +kernel
theorem cond17 : ∀ i : grid0.Coords, k0_cond17 i = 1#1 ↔ pt i < 29 := by decide +kernel
theorem cond18 : ∀ i : grid0.Coords, k0_cond18 i = 1#1 ↔ 21 ≤ pt i := by decide +kernel
theorem cond19 : ∀ i : grid0.Coords, k0_cond19 i = 1#1 ↔ pt i < 21 := by decide +kernel
theorem cond21 : ∀ i : grid0.Coords, k0_cond21 i = 1#1 ↔ 32 ≤ pt i := by decide +kernel
theorem cond22 : ∀ i : grid0.Coords, 32 ≤ pt i → (k0_cond22 i = 1#1 ↔ tgt (pt i) < 21) := by decide +kernel
theorem cond23 : ∀ i : grid0.Coords, 32 ≤ pt i → (k0_cond23 i = 1#1 ↔ 24 ≤ tgt (pt i)) := by decide +kernel
theorem cond24 : ∀ i : grid0.Coords, 32 ≤ pt i → (k0_cond24 i = 1#1 ↔ tgt (pt i) < 24) := by decide +kernel
theorem cond25 : ∀ i : grid0.Coords, 32 ≤ pt i → (k0_cond25 i = 1#1 ↔ 24 ≤ tgt (pt i)) := by decide +kernel
theorem cond26 : ∀ i : grid0.Coords, 32 ≤ pt i → (k0_cond26 i = 1#1 ↔ tgt (pt i) < 24) := by decide +kernel
theorem cond27 : ∀ i : grid0.Coords, 32 ≤ pt i → (k0_cond27 i = 1#1 ↔ (3 ≤ tgt (pt i) ∧ tgt (pt i) < 24)) := by decide +kernel
theorem cond28 : ∀ i : grid0.Coords, 32 ≤ pt i → tgt (pt i) < 24 → ¬ k0_cond28 i = 1#1 := by decide +kernel
theorem cond29 : ∀ i : grid0.Coords, 32 ≤ pt i → 3 ≤ tgt (pt i) → tgt (pt i) < 24 → k0_cond29 i = 1#1 := by decide +kernel

/-- The word test "the point is zero"; -/
theorem condFirst : ∀ i : grid0.Coords,
    Scalar.cmpi .ne (Scalar.extui (Scalar.cmpi .eq (BitVec.ofNat 32 (i 0).val) 0#32) : BitVec 32) 0#32 = 1#1 ↔ pt i = 0 := by decide +kernel
/-- "the point is past zero"; -/
theorem condLater : ∀ i : grid0.Coords,
    Scalar.cmpi .ne (Scalar.extui (Scalar.cmpi .sgt (BitVec.ofNat 32 (i 0).val) 0#32) : BitVec 32) 0#32 = 1#1 ↔ 0 < pt i := by decide +kernel
/-- "the point is 32". -/
theorem condMid : ∀ i : grid0.Coords,
    Scalar.cmpi .ne (Scalar.extui (Scalar.cmpi .eq (BitVec.ofNat 32 (i 0).val) 32#32) : BitVec 32) 0#32 = 1#1 ↔ pt i = 32 := by decide +kernel

/-! ## The computed offsets -/

theorem off4 : k0_off4 = semOff 0 := by decide +kernel
theorem off5 : k0_off5 = bufOff 0 := by decide +kernel
theorem off6 : k0_off6 = blkOff 0 := by decide +kernel
theorem off10 : k0_off10 = semOff 1 := by decide +kernel
theorem off11 : k0_off11 = bufOff 1 := by decide +kernel
theorem off12 : k0_off12 = blkOff 1 := by decide +kernel
theorem off16 : k0_off16 = semOff 2 := by decide +kernel
theorem off17 : k0_off17 = bufOff 2 := by decide +kernel
theorem off18 : k0_off18 = blkOff 2 := by decide +kernel
theorem off22 : ∀ (i : grid0.Coords) (s : Fin 3), pt i < 24 → pt i % 3 = s.val → k0_off22 i = semOff s := by decide +kernel
theorem off23 : ∀ (i : grid0.Coords) (s : Fin 3), pt i < 24 → pt i % 3 = s.val → k0_off23 i = bufOff s := by decide +kernel
theorem off24 : ∀ (i : grid0.Coords) (b : Fin 32), pt i = b.val → k0_off24 i = blkOff b := by decide +kernel
theorem off26 : ∀ (i : grid0.Coords) (s : Fin 3), pt i < 24 → pt i % 3 = s.val → k0_off26 i = bufOff s := by decide +kernel
theorem off30 : ∀ (i : grid0.Coords) (s : Fin 3), pt i < 21 → pt i % 3 = s.val → k0_off30 i = semOff s := by decide +kernel
theorem off31 : ∀ (i : grid0.Coords) (s : Fin 3), pt i < 21 → pt i % 3 = s.val → k0_off31 i = bufOff s := by decide +kernel
theorem off32 : ∀ (i : grid0.Coords) (b : Fin 32), pt i + 3 = b.val → k0_off32 i = blkOff b := by decide +kernel
theorem off19 : ∀ (i : grid0.Coords) (s : Fin 3), 24 ≤ pt i → pt i < 32 → pt i % 3 = s.val → k0_off19 i = semOff s := by decide +kernel
theorem off20 : ∀ (i : grid0.Coords) (k : Fin 8), pt i = 24 + k.val → k0_off20 i = cacheOff k := by decide +kernel
theorem off21 : ∀ (i : grid0.Coords) (b : Fin 32), pt i = b.val → k0_off21 i = blkOff b := by decide +kernel
theorem off25 : ∀ (i : grid0.Coords) (k : Fin 8), pt i = 24 + k.val → k0_off25 i = cacheOff k := by decide +kernel
theorem off27 : ∀ (i : grid0.Coords) (s : Fin 3), 21 ≤ pt i → pt i < 29 → pt i % 3 = s.val → k0_off27 i = semOff s := by decide +kernel
theorem off28 : ∀ (i : grid0.Coords) (k : Fin 8), pt i = 21 + k.val → k0_off28 i = cacheOff k := by decide +kernel
theorem off29 : ∀ (i : grid0.Coords) (b : Fin 32), pt i + 3 = b.val → k0_off29 i = blkOff b := by decide +kernel
theorem off36 : ∀ (i : grid0.Coords) (s : Fin 3), 32 ≤ pt i → tgt (pt i) < 21 → tgt (pt i) % 3 = s.val → k0_off36 i = semOff s := by decide +kernel
theorem off37 : ∀ (i : grid0.Coords) (s : Fin 3), 32 ≤ pt i → tgt (pt i) < 21 → tgt (pt i) % 3 = s.val → k0_off37 i = bufOff s := by decide +kernel
theorem off38 : ∀ (i : grid0.Coords) (b : Fin 32), 32 ≤ pt i → tgt (pt i) = b.val → k0_off38 i = blkOff b := by decide +kernel
theorem off39 : ∀ (i : grid0.Coords) (k : Fin 8), 32 ≤ pt i → tgt (pt i) = 24 + k.val → k0_off39 i = cacheOff k := by decide +kernel
theorem off40 : ∀ (i : grid0.Coords) (s : Fin 3), 32 ≤ pt i → tgt (pt i) < 24 → tgt (pt i) % 3 = s.val → k0_off40 i = bufOff s := by decide +kernel
theorem off44 : ∀ (i : grid0.Coords) (s : Fin 3), 32 ≤ pt i → 3 ≤ tgt (pt i) → tgt (pt i) < 24 → tgt (pt i) % 3 = s.val → k0_off44 i = semOff s := by decide +kernel
theorem off45 : ∀ (i : grid0.Coords) (s : Fin 3), 32 ≤ pt i → 3 ≤ tgt (pt i) → tgt (pt i) < 24 → tgt (pt i) % 3 = s.val → k0_off45 i = bufOff s := by decide +kernel
theorem off46 : ∀ (i : grid0.Coords) (b : Fin 32), 32 ≤ pt i → tgt (pt i) = b.val + 3 → k0_off46 i = blkOff b := by decide +kernel

end Cert.KernelIdeal.Hand

end
-- ==== Proof.Pieces.lean ====
/-
  What the invariant and the runs of the body are stated in: the pieces of memory the core holds — block `b` of the input
  at a read share, a slot of the streaming buffer or of the cache, the two accumulators, the two scalars —, a block in
  flight to a slot, and what the body's loads read of them.
-/
module

public import proofs.«01_k».proof.Proof.Slots
public import Idealize.ShloMosaic.Lib.VecWindow
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ

instance (s : Fin 3) : ClosedOff (bufOff s) := ⟨bufOff s, rfl⟩
instance (k : Fin 8) : ClosedOff (cacheOff k) := ⟨cacheOff k, rfl⟩
instance (b : Fin 32) : ClosedOff (blkOff b) := ⟨blkOff b, rfl⟩

section Pieces
variable (c : Dev nD) (XA : Buf (Elt F) (xM.view.loc (c : Thread nD τ)))

/-- Slot `s` of the streaming buffer at contents `f`. -/
abbrev bP (s : Fin 3) (f : Buf (Elt F) ((bslot s).view.loc (c : Thread nD τ))) : sProp 𝕄 :=
  (bslot s).view.loc (c : Thread nD τ) ↦[(bslot s).view.set]{fullShare} f
/-- Slot `k` of the cache at contents `f`. -/
abbrev cP (k : Fin 8) (f : Buf (Elt F) ((cslot k).view.loc (c : Thread nD τ))) : sProp 𝕄 :=
  (cslot k).view.loc (c : Thread nD τ) ↦[(cslot k).view.set]{fullShare} f
/-- Block `b` of the input at the read share `q`. -/
abbrev xP (q : PosShare TreeShare) (b : Fin 32) : sProp 𝕄 :=
  (xblk b).view.loc (c : Thread nD τ) ↦[(xblk b).view.set]{q} XA
/-- Semaphore `s` at zero. -/
abbrev cellP (s : Fin 3) : sProp 𝕄 := semVal ((c : Thread nD τ), SemLoc.dma (csem s).sem) 0

/-- Block `b` of the input as an array of 512 rows. -/
def xblkV (b : Fin 32) : Vec F S512x2048 .f32 := (xblk b).view.read (Elt F) XA
/-- Block `b` as the body loads it, with a leading axis of length one. -/
def xv (b : Fin 32) : Vec F S1x512x2048 .f32 := shapeCast S1x512x2048 (xblkV c XA b) (by decide)

/-- What a transfer of block `b` leaves in slot `s` over contents `f`; -/
abbrev bLanded (s : Fin 3) (b : Fin 32) (f : Buf (Elt F) ((bslot s).view.loc (c : Thread nD τ))) : Buf (Elt F) ((bslot s).view.loc (c : Thread nD τ)) :=
  (bslot s).view.writes (Elt F) f [⟨Rect.whole S512x2048, ReadAs.same.apply ((xblk b).view.read (Elt F) XA)⟩]
/-- in the cache's slot `k`. -/
abbrev cLanded (k : Fin 8) (b : Fin 32) (f : Buf (Elt F) ((cslot k).view.loc (c : Thread nD τ))) : Buf (Elt F) ((cslot k).view.loc (c : Thread nD τ)) :=
  (cslot k).view.writes (Elt F) f [⟨Rect.whole S512x2048, ReadAs.same.apply ((xblk b).view.read (Elt F) XA)⟩]
/-- Block `b` in flight to slot `s` of the streaming buffer, completing on semaphore `s`. -/
abbrev bFlight (q : PosShare TreeShare) (s : Fin 3) (b : Fin 32) (f : Buf (Elt F) ((bslot s).view.loc (c : Thread nD τ))) : sProp 𝕄 :=
  Transfers.Flight countersEmb (c : Thread nD τ) (SemLoc.dma (csem s).sem) () 131072 iprop(bP c s (bLanded c XA s b f) ∗ xP c XA q b)
/-- Block `b` in flight to slot `k` of the cache, completing on semaphore `s`. -/
abbrev cFlight (q : PosShare TreeShare) (s : Fin 3) (k : Fin 8) (b : Fin 32) (f : Buf (Elt F) ((cslot k).view.loc (c : Thread nD τ))) : sProp 𝕄 :=
  Transfers.Flight countersEmb (c : Thread nD τ) (SemLoc.dma (csem s).sem) () 131072 iprop(cP c k (cLanded c XA k b f) ∗ xP c XA q b)

/-- Slot `s` of the streaming buffer holds block `b`. -/
def bHas (s : Fin 3) (b : Fin 32) : sProp 𝕄 := iprop(∃ f, ⌜(bslot s).view.read (Elt F) f = xblkV c XA b⌝ ∗ bP c s f)
/-- Slot `k` of the cache holds block `b`. -/
def cHas (k : Fin 8) (b : Fin 32) : sProp 𝕄 := iprop(∃ f, ⌜(cslot k).view.read (Elt F) f = xblkV c XA b⌝ ∗ cP c k f)

/-- The two accumulators at the values `A`; -/
def mnP (A : Vec F S8x2048 .f32) : sProp 𝕄 := iprop(∃ f, ⌜mnM.view.read (Elt F) f = A⌝ ∗ mnM.view.loc (c : Thread nD τ) ↦[mnM.view.set]{fullShare} f)
def mxP (A : Vec F S8x2048 .f32) : sProp 𝕄 := iprop(∃ f, ⌜mxM.view.read (Elt F) f = A⌝ ∗ mxM.view.loc (c : Thread nD τ) ↦[mxM.view.set]{fullShare} f)
/-- the scalar memory at anything; -/
def scAnyP : sProp 𝕄 := iprop(∃ f, scM.view.loc (c : Thread nD τ) ↦[scM.view.set]{fullShare} f)
/-- the scalar memory at the two scalars `a` and `z`. -/
def scP (a z : Elt F .f32) : sProp 𝕄 := iprop(∃ f, scM.view.loc (c : Thread nD τ) ↦[scM.view.set]{fullShare}
  scM.view.writes (Elt F) f [⟨Rect.unit (s := S2) ![1] S1.size inb_S2_S1_1, fun _ => z⟩, ⟨Rect.unit (s := S2) ![0] S1.size inb_S2_S1_0, fun _ => a⟩])
/-- The output's staging buffer at anything; -/
def outAnyP (arg2 : Memref sig .tc .vmem S512x2048 .f32) : sProp 𝕄 := iprop(∃ f, arg2.view.loc (c : Thread nD τ) ↦[arg2.view.set]{fullShare} f)
/-- at the block `Y`. -/
def outP (arg2 : Memref sig .tc .vmem S512x2048 .f32) (Y : Vec F S512x2048 .f32) : sProp 𝕄 := owns (c : Thread nD τ) arg2 fullShare Y

/-! ## Sets -/

theorem bslot_set (s : Fin 3) : LE.le (α := Finset (bslot s).view.ty.Idx) ((bufM.access (bRect s)).set) ((bslot s).view.set) := by
  unfold bslot; exact (View.set_reshape _ _).ge
theorem cslot_set (k : Fin 8) : LE.le (α := Finset (cslot k).view.ty.Idx) ((cacheM.access (cRect k)).set) ((cslot k).view.set) := by
  unfold cslot; exact (View.set_reshape _ _).ge

/-! ## What a load reads -/

theorem bload_eq {off : Fin 3 → Nat} {s : Fin 3} (e : off = bufOff s) (hh hl) :
    (TpuEff.load bufM (Rect.unit (s := S3x512x2048) off S1x512x2048.size hh).toLoadRect hl : TpuEff nD τ sig (Elt F) Λ₀ .tc _)
      = TpuEff.load bufM (bRect s).toLoadRect (View.loadsAt_vmem h_S1x512x2048) := by subst e; rfl
theorem cload_eq {off : Fin 3 → Nat} {k : Fin 8} (e : off = cacheOff k) (hh hl) :
    (TpuEff.load cacheM (Rect.unit (s := S8x512x2048) off S1x512x2048.size hh).toLoadRect hl : TpuEff nD τ sig (Elt F) Λ₀ .tc _)
      = TpuEff.load cacheM (cRect k).toLoadRect (View.loadsAt_vmem h_S1x512x2048) := by subst e; rfl

/-- A slot whose reading is block `b`, loaded through the whole streaming buffer: block `b`; -/
theorem bread (s : Fin 3) (b : Fin 32) (f : Buf (Elt F) ((bslot s).view.loc (c : Thread nD τ))) (hf : (bslot s).view.read (Elt F) f = xblkV c XA b) :
    bufM.view.readAt (Elt F) (bRect s).toLoadRect f = xv c XA b := by
  have h : (bslot s).view.read (Elt F) f = shapeCast S512x2048 (bufM.view.readAt (Elt F) (bRect s).toLoadRect f) shapeCasts_S1x512x2048_S512x2048 := rfl
  unfold xv; rw [← hf, h, shapeCast_shapeCast]
/-- through the whole cache. -/
theorem cread (k : Fin 8) (b : Fin 32) (f : Buf (Elt F) ((cslot k).view.loc (c : Thread nD τ))) (hf : (cslot k).view.read (Elt F) f = xblkV c XA b) :
    cacheM.view.readAt (Elt F) (cRect k).toLoadRect f = xv c XA b := by
  have h : (cslot k).view.read (Elt F) f = shapeCast S512x2048 (cacheM.view.readAt (Elt F) (cRect k).toLoadRect f) shapeCasts_S1x512x2048_S512x2048 := rfl
  unfold xv; rw [← hf, h, shapeCast_shapeCast]

/-- A landed block reads as itself. -/
theorem bLanded_read (s : Fin 3) (b : Fin 32) (f : Buf (Elt F) ((bslot s).view.loc (c : Thread nD τ))) :
    (bslot s).view.read (Elt F) (bLanded c XA s b f) = xblkV c XA b :=
  View.read_writes_whole _ _ _
theorem cLanded_read (k : Fin 8) (b : Fin 32) (f : Buf (Elt F) ((cslot k).view.loc (c : Thread nD τ))) :
    (cslot k).view.read (Elt F) (cLanded c XA k b f) = xblkV c XA b :=
  View.read_writes_whole _ _ _

end Pieces

end Cert.KernelIdeal.Hand

end
-- ==== Proof.Runs.lean ====
module

public import proofs.«01_k».proof.Proof.Pieces

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ

section Runs
variable (c : Dev nD) (XA : Buf (Elt F) (xM.view.loc (c : Thread nD τ)))

abbrev body (i : grid0.Coords) (arg2 : Memref sig .tc .vmem S512x2048 .f32) (h2 : arg2.IsWhole) :=
  cc0__body (F := F) i xM (Memref.isWhole_whole _) arg2 h2 bufM (Memref.isWhole_whole _) cacheM (Memref.isWhole_whole _)
    mnM (Memref.isWhole_whole _) mxM (Memref.isWhole_whole _) scM (Memref.isWhole_whole _) cc0_scratch5

abbrev Runs (i : grid0.Coords) (P Q : sProp 𝕄) : Prop :=
  ∀ (arg2 : Memref sig .tc .vmem S512x2048 .f32) (h2 : arg2.IsWhole) (W : Waits sig Unit) (K : PUnit → sProp 𝕄),
    iprop(P ∗ owes (c : Thread nD τ) 0 W ∗ (iprop(Q ∗ (∃ W', owes (c : Thread nD τ) 0 W')) -∗ K ⟨⟩))
      ⊢ wp frame (wpE (defs₀ (F := F)) Variants.none c none) Set.univ (body i arg2 h2) K

/-- Writing the accumulator whole leaves the payload. -/
theorem mn_written (f : Buf (Elt F) (mnM.view.loc (c : Thread nD τ))) (A : Vec F S8x2048 .f32) :
    ((mnM.view.loc (c : Thread nD τ) ↦[mnM.view.set]{fullShare}
      mnM.view.writes (Elt F) f [⟨Rect.unit (s := S8x2048) ![0, 0] S8x2048.size inb_S8x2048_S8x2048_0_0, A⟩]) : sProp 𝕄)
      ⊢ iprop(∃ f, ⌜mnM.view.read (Elt F) f = A⌝ ∗ mnM.view.loc (c : Thread nD τ) ↦[mnM.view.set]{fullShare} f) := by
  iintro H; iexists _; isplitr; swap; · iexact H
  ipureintro; exact View.read_writes_full _ _ _ _ _
theorem mx_written (f : Buf (Elt F) (mxM.view.loc (c : Thread nD τ))) (A : Vec F S8x2048 .f32) :
    ((mxM.view.loc (c : Thread nD τ) ↦[mxM.view.set]{fullShare}
      mxM.view.writes (Elt F) f [⟨Rect.unit (s := S8x2048) ![0, 0] S8x2048.size inb_S8x2048_S8x2048_0_0, A⟩]) : sProp 𝕄)
      ⊢ iprop(∃ f, ⌜mxM.view.read (Elt F) f = A⌝ ∗ mxM.view.loc (c : Thread nD τ) ↦[mxM.view.set]{fullShare} f) := by
  iintro H; iexists _; isplitr; swap; · iexact H
  ipureintro; exact View.read_writes_full _ _ _ _ _
theorem bHas_of_read {s : Fin 3} {b : Fin 32} {f : Buf (Elt F) ((bslot s).view.loc (c : Thread nD τ))}
    (h : (bslot s).view.read (Elt F) f = xblkV c XA b) : bP c s f ⊢ bHas c XA s b := by
  unfold bHas; iintro H; iexists _; isplitr; swap; · iexact H
  ipureintro; exact h
theorem cHas_of_read {k : Fin 8} {b : Fin 32} {f : Buf (Elt F) ((cslot k).view.loc (c : Thread nD τ))}
    (h : (cslot k).view.read (Elt F) f = xblkV c XA b) : cP c k f ⊢ cHas c XA k b := by
  unfold cHas; iintro H; iexists _; isplitr; swap; · iexact H
  ipureintro; exact h

theorem mn_read {f : Buf (Elt F) (mnM.view.loc (c : Thread nD τ))} {A : Vec F S8x2048 .f32} (h : mnM.view.read (Elt F) f = A) :
    mnM.view.readAt (Elt F) (Rect.unit (s := S8x2048) ![0, 0] S8x2048.size inb_S8x2048_S8x2048_0_0).toLoadRect f = A :=
  (View.readAt_full _ _ _).trans h
theorem mx_read {f : Buf (Elt F) (mxM.view.loc (c : Thread nD τ))} {A : Vec F S8x2048 .f32} (h : mxM.view.read (Elt F) f = A) :
    mxM.view.readAt (Elt F) (Rect.unit (s := S8x2048) ![0, 0] S8x2048.size inb_S8x2048_S8x2048_0_0).toLoadRect f = A :=
  (View.readAt_full _ _ _).trans h

/-- A block's flight into a slot other blocks landed in before is its flight over what they left. -/
theorem bFlight_over (q : PosShare TreeShare) (s : Fin 3) (b : Fin 32) (f : Buf (Elt F) ((bslot s).view.loc (c : Thread nD τ)))
    (L : List (View.Piece (Elt F) S512x2048 .f32)) :
    (Transfers.Flight countersEmb (c : Thread nD τ) (SemLoc.dma (csem s).sem) () 131072
      iprop(((bslot s).view.loc (c : Thread nD τ) ↦[(bslot s).view.set]{fullShare}
          (bslot s).view.writes (Elt F) f (⟨Rect.whole S512x2048, ReadAs.same.apply ((xblk b).view.read (Elt F) XA)⟩ :: L)) ∗ xP c XA q b) : sProp 𝕄)
      ⊢ iprop(∃ f', bFlight c XA q s b f') := by
  have e : (bslot s).view.writes (Elt F) f (⟨Rect.whole S512x2048, ReadAs.same.apply ((xblk b).view.read (Elt F) XA)⟩ :: L)
      = bLanded c XA s b ((bslot s).view.writes (Elt F) f L) := by simp only [bLanded, View.writes]
  rw [e]; iintro H; iexists _; iexact H
theorem cFlight_over (q : PosShare TreeShare) (s : Fin 3) (k : Fin 8) (b : Fin 32) (f : Buf (Elt F) ((cslot k).view.loc (c : Thread nD τ)))
    (L : List (View.Piece (Elt F) S512x2048 .f32)) :
    (Transfers.Flight countersEmb (c : Thread nD τ) (SemLoc.dma (csem s).sem) () 131072
      iprop(((cslot k).view.loc (c : Thread nD τ) ↦[(cslot k).view.set]{fullShare}
          (cslot k).view.writes (Elt F) f (⟨Rect.whole S512x2048, ReadAs.same.apply ((xblk b).view.read (Elt F) XA)⟩ :: L)) ∗ xP c XA q b) : sProp 𝕄)
      ⊢ iprop(∃ f', cFlight c XA q s k b f') := by
  have e : (cslot k).view.writes (Elt F) f (⟨Rect.whole S512x2048, ReadAs.same.apply ((xblk b).view.read (Elt F) XA)⟩ :: L)
      = cLanded c XA k b ((cslot k).view.writes (Elt F) f L) := by simp only [cLanded, View.writes]
  rw [e]; iintro H; iexists _; iexact H

/-- Point 0: blocks 0, 1 and 2 are started, block 0 lands and is reduced, and block 3 is started. -/
theorem runA (i : grid0.Coords) (q0 q1 q2 : PosShare TreeShare) (h0 : pt i = 0) (f0 : Buf (Elt F) ((bslot 0).view.loc (c : Thread nD τ)))
    (f1 : Buf (Elt F) ((bslot 1).view.loc (c : Thread nD τ))) (f2 : Buf (Elt F) ((bslot 2).view.loc (c : Thread nD τ))) (A B : Vec F S8x2048 .f32) :
    Runs c i iprop(cellP c 0 ∗ cellP c 1 ∗ cellP c 2 ∗ bP c 0 f0 ∗ bP c 1 f1 ∗ bP c 2 f2
        ∗ xP c XA q0 0 ∗ xP c XA q1 1 ∗ xP c XA q2 2 ∗ xP c XA q0 3 ∗ mnP c A ∗ mxP c B)
      iprop((∃ f', bFlight c XA q0 0 3 f') ∗ (∃ f', bFlight c XA q1 1 1 f') ∗ (∃ f', bFlight c XA q2 2 2 f') ∗ xP c XA q0 0
        ∗ mnP c (k0_pay11 (xv c XA 0)) ∗ mxP c (k0_pay12 (xv c XA 0))) := by
  intro arg2 h2 W K
  simp only [body, cc0__body_eq_skeleton]; unfold cc0__body_skel
  simp (disch := omega) only [(cond1 i).2, cond2, cond3, cond4, cond5, cond6, cond7, (cond8 i).2, (cond9 i).2, (cond9 i).not.2, (cond10 i).2, (cond10 i).not.2,
    (cond11 i).2, (cond11 i).not.2, (cond14 i).2, (cond14 i).not.2, (cond17 i).2, (cond17 i).not.2, (cond18 i).2, (cond18 i).not.2,
    (cond19 i).2, (cond19 i).not.2, (cond21 i).not.2, (condFirst i).2, (condFirst i).not.2, (condLater i).2, (condLater i).not.2,
    (condMid i).not.2, ↓reduceDIte]
  have hs : pt i % 3 = (0 : Fin 3).val := by rw [h0]; rfl
  have hb : pt i = (0 : Fin 32).val := by rw [h0]; rfl
  have hb' : pt i + 3 = (3 : Fin 32).val := by rw [h0]; rfl
  simp only [csem_eq (off22 i 0 (by omega) hs), bslot_eq (off23 i 0 (by omega) hs), xblk_eq (off24 i 0 hb),
    csem_eq (off30 i 0 (by omega) hs), bslot_eq (off31 i 0 (by omega) hs), xblk_eq (off32 i 3 hb'), bload_eq (F := F) (off26 i 0 (by omega) hs),
    csem_eq (off4 : _ = semOff 0), bslot_eq (off5 : _ = bufOff 0), xblk_eq (off6 : _ = blkOff 0),
    csem_eq (off10 : _ = semOff 1), bslot_eq (off11 : _ = bufOff 1), xblk_eq (off12 : _ = blkOff 1),
    csem_eq (off16 : _ = semOff 2), bslot_eq (off17 : _ = bufOff 2), xblk_eq (off18 : _ = blkOff 2)]
  have hS := bslot_set 0
  have hv := bread c XA 0 0 _ (bLanded_read c XA 0 0 (bslot 0).view.junk)
  unfold mnP mxP
  iintro ⟨⟨Hc0, Hc1, Hc2, Hb0, Hb1, Hb2, Hx0, Hx1, Hx2, Hx3, ⟨%vn, %en, Hn⟩, ⟨%vx, %ex, Hm⟩⟩, HW, Hk⟩
  have hn := mn_read c en
  have hm := mx_read c ex
  sl_exec
  sl_step
  iapply Hk
  isplitr [HW]
  swap; · iexists _; iexact HW
  sl_unfold_run_names
  isplitl [Hc0]; · iapply bFlight_over; iexact Hc0
  isplitl [Hc1]; · iapply bFlight_over; iexact Hc1
  isplitl [Hc2]; · iapply bFlight_over; iexact Hc2
  isplitl [Hx0]; · iexact Hx0
  isplitl [Hn]; · iapply mn_written; iexact Hn
  iapply mx_written; iexact Hm

/-- Points 1 to 20: the block in flight to the slot lands, is reduced, and the slot's next block is started. -/
theorem runB (i : grid0.Coords) (s : Fin 3) (b b' : Fin 32) (q : PosShare TreeShare) (h0 : 0 < pt i) (h1 : pt i < 21)
    (hs : pt i % 3 = s.val) (hb : pt i = b.val) (hb' : pt i + 3 = b'.val) (f : Buf (Elt F) ((bslot s).view.loc (c : Thread nD τ))) (A B : Vec F S8x2048 .f32) :
    Runs c i iprop(bFlight c XA q s b f ∗ xP c XA q b' ∗ mnP c A ∗ mxP c B)
      iprop((∃ f', bFlight c XA q s b' f') ∗ xP c XA q b ∗ mnP c (k0_pay13 (xv c XA b) A) ∗ mxP c (k0_pay14 (xv c XA b) B)) := by
  intro arg2 h2 W K
  simp only [body, cc0__body_eq_skeleton]; unfold cc0__body_skel
  simp (disch := omega) only [(cond1 i).2, (cond1 i).not.2, (cond8 i).2, (cond9 i).2, (cond9 i).not.2, (cond10 i).2, (cond10 i).not.2,
    (cond11 i).2, (cond11 i).not.2, (cond14 i).2, (cond14 i).not.2, (cond17 i).2, (cond17 i).not.2, (cond18 i).2, (cond18 i).not.2,
    (cond19 i).2, (cond19 i).not.2, (cond21 i).not.2, (condFirst i).2, (condFirst i).not.2, (condLater i).2, (condLater i).not.2,
    (condMid i).not.2, ↓reduceDIte]
  simp only [csem_eq (off22 i s (by omega) hs), bslot_eq (off23 i s (by omega) hs), xblk_eq (off24 i b hb),
    csem_eq (off30 i s (by omega) hs), bslot_eq (off31 i s (by omega) hs), xblk_eq (off32 i b' hb'), bload_eq (F := F) (off26 i s (by omega) hs)]
  have hS := bslot_set s
  have hv := bread c XA s b _ (bLanded_read c XA s b (bslot s).view.junk)
  unfold mnP mxP
  iintro ⟨⟨Hf, Hx, ⟨%vn, %en, Hn⟩, ⟨%vx, %ex, Hm⟩⟩, HW, Hk⟩
  have hn := mn_read c en
  have hm := mx_read c ex
  sl_exec
  sl_step
  iapply Hk
  isplitr [HW]
  swap; · iexists _; iexact HW
  isplitl [Hf]; · sl_unfold_run_names; iapply bFlight_over; iexact Hf
  isplitl [Hf_src]; · iexact Hf_src
  isplitl [Hn]; · iapply mn_written; iexact Hn
  iapply mx_written; iexact Hm

/-- Points 21 to 23: the block in flight to the slot lands and is reduced, and a block is started into the cache. -/
theorem runC (i : grid0.Coords) (s : Fin 3) (k : Fin 8) (b b' : Fin 32) (q : PosShare TreeShare) (h0 : 21 ≤ pt i) (h1 : pt i < 24)
    (hs : pt i % 3 = s.val) (hk : pt i = 21 + k.val) (hb : pt i = b.val) (hb' : pt i + 3 = b'.val)
    (f : Buf (Elt F) ((bslot s).view.loc (c : Thread nD τ))) (fc : Buf (Elt F) ((cslot k).view.loc (c : Thread nD τ))) (A B : Vec F S8x2048 .f32) :
    Runs c i iprop(bFlight c XA q s b f ∗ xP c XA q b' ∗ cP c k fc ∗ mnP c A ∗ mxP c B)
      iprop((∃ f', cFlight c XA q s k b' f') ∗ xP c XA q b ∗ bHas c XA s b ∗ mnP c (k0_pay13 (xv c XA b) A) ∗ mxP c (k0_pay14 (xv c XA b) B)) := by
  intro arg2 h2 W K
  simp only [body, cc0__body_eq_skeleton]; unfold cc0__body_skel
  simp (disch := omega) only [(cond1 i).2, (cond1 i).not.2, (cond8 i).2, (cond9 i).2, (cond9 i).not.2, (cond10 i).2, (cond10 i).not.2,
    (cond11 i).2, (cond11 i).not.2, (cond14 i).2, (cond14 i).not.2, (cond17 i).2, (cond17 i).not.2, (cond18 i).2, (cond18 i).not.2,
    (cond19 i).2, (cond19 i).not.2, (cond21 i).not.2, (condFirst i).2, (condFirst i).not.2, (condLater i).2, (condLater i).not.2,
    (condMid i).not.2, ↓reduceDIte]
  simp only [csem_eq (off22 i s (by omega) hs), bslot_eq (off23 i s (by omega) hs), xblk_eq (off24 i b hb),
    csem_eq (off27 i s (by omega) (by omega) hs), cslot_eq (off28 i k hk), xblk_eq (off29 i b' hb'), bload_eq (F := F) (off26 i s (by omega) hs)]
  have hS := bslot_set s
  have hv := bread c XA s b _ (bLanded_read c XA s b (bslot s).view.junk)
  unfold mnP mxP
  iintro ⟨⟨Hf, Hx, Hc, ⟨%vn, %en, Hn⟩, ⟨%vx, %ex, Hm⟩⟩, HW, Hk⟩
  have hn := mn_read c en
  have hm := mx_read c ex
  sl_exec
  sl_step
  iapply Hk
  isplitr [HW]
  swap; · iexists _; iexact HW
  isplitl [Hf]; · sl_unfold_run_names; iapply cFlight_over; iexact Hf
  isplitl [Hf_src]; · iexact Hf_src
  isplitl [Hf_dst]; · iapply (bHas_of_read c XA (bLanded_read c XA s b _)); iexact Hf_dst
  isplitl [Hn]; · iapply mn_written; iexact Hn
  iapply mx_written; iexact Hm

/-- Points 24 to 28: the block in flight to the cache lands and is reduced, and the next is started into the cache. -/
theorem runD (i : grid0.Coords) (s : Fin 3) (k k' : Fin 8) (b b' : Fin 32) (q : PosShare TreeShare) (h0 : 24 ≤ pt i) (h1 : pt i < 29)
    (hs : pt i % 3 = s.val) (hk : pt i = 24 + k.val) (hk' : pt i = 21 + k'.val) (hb : pt i = b.val) (hb' : pt i + 3 = b'.val)
    (f : Buf (Elt F) ((cslot k).view.loc (c : Thread nD τ))) (fc : Buf (Elt F) ((cslot k').view.loc (c : Thread nD τ))) (A B : Vec F S8x2048 .f32) :
    Runs c i iprop(cFlight c XA q s k b f ∗ xP c XA q b' ∗ cP c k' fc ∗ mnP c A ∗ mxP c B)
      iprop((∃ f', cFlight c XA q s k' b' f') ∗ xP c XA q b ∗ cHas c XA k b ∗ mnP c (k0_pay13 (xv c XA b) A) ∗ mxP c (k0_pay14 (xv c XA b) B)) := by
  intro arg2 h2 W K
  simp only [body, cc0__body_eq_skeleton]; unfold cc0__body_skel
  simp (disch := omega) only [(cond1 i).2, (cond1 i).not.2, (cond8 i).2, (cond9 i).2, (cond9 i).not.2, (cond10 i).2, (cond10 i).not.2,
    (cond11 i).2, (cond11 i).not.2, (cond14 i).2, (cond14 i).not.2, (cond17 i).2, (cond17 i).not.2, (cond18 i).2, (cond18 i).not.2,
    (cond19 i).2, (cond19 i).not.2, (cond21 i).not.2, (condFirst i).2, (condFirst i).not.2, (condLater i).2, (condLater i).not.2,
    (condMid i).not.2, ↓reduceDIte]
  simp only [csem_eq (off19 i s (by omega) (by omega) hs), cslot_eq (off20 i k hk), xblk_eq (off21 i b hb),
    csem_eq (off27 i s (by omega) (by omega) hs), cslot_eq (off28 i k' hk'), xblk_eq (off29 i b' hb'), cload_eq (F := F) (off25 i k hk)]
  have hS := cslot_set k
  have hv := cread c XA k b _ (cLanded_read c XA k b (cslot k).view.junk)
  unfold mnP mxP
  iintro ⟨⟨Hf, Hx, Hc, ⟨%vn, %en, Hn⟩, ⟨%vx, %ex, Hm⟩⟩, HW, Hk⟩
  have hn := mn_read c en
  have hm := mx_read c ex
  sl_exec
  sl_step
  iapply Hk
  isplitr [HW]
  swap; · iexists _; iexact HW
  isplitl [Hf]; · sl_unfold_run_names; iapply cFlight_over; iexact Hf
  isplitl [Hf_src]; · iexact Hf_src
  isplitl [Hf_dst]; · iapply (cHas_of_read c XA (cLanded_read c XA k b _)); iexact Hf_dst
  isplitl [Hn]; · iapply mn_written; iexact Hn
  iapply mx_written; iexact Hm

/-- Points 29 to 31: the block in flight to the cache lands and is reduced. -/
theorem runE (i : grid0.Coords) (s : Fin 3) (k : Fin 8) (b : Fin 32) (q : PosShare TreeShare) (h0 : 29 ≤ pt i) (h1 : pt i < 32)
    (hs : pt i % 3 = s.val) (hk : pt i = 24 + k.val) (hb : pt i = b.val)
    (f : Buf (Elt F) ((cslot k).view.loc (c : Thread nD τ))) (A B : Vec F S8x2048 .f32) :
    Runs c i iprop(cFlight c XA q s k b f ∗ mnP c A ∗ mxP c B)
      iprop(cellP c s ∗ xP c XA q b ∗ cHas c XA k b ∗ mnP c (k0_pay13 (xv c XA b) A) ∗ mxP c (k0_pay14 (xv c XA b) B)) := by
  intro arg2 h2 W K
  simp only [body, cc0__body_eq_skeleton]; unfold cc0__body_skel
  simp (disch := omega) only [(cond1 i).2, (cond1 i).not.2, (cond8 i).2, (cond9 i).2, (cond9 i).not.2, (cond10 i).2, (cond10 i).not.2,
    (cond11 i).2, (cond11 i).not.2, (cond14 i).2, (cond14 i).not.2, (cond17 i).2, (cond17 i).not.2, (cond18 i).2, (cond18 i).not.2,
    (cond19 i).2, (cond19 i).not.2, (cond21 i).not.2, (condFirst i).2, (condFirst i).not.2, (condLater i).2, (condLater i).not.2,
    (condMid i).not.2, ↓reduceDIte]
  simp only [csem_eq (off19 i s (by omega) (by omega) hs), cslot_eq (off20 i k hk), xblk_eq (off21 i b hb), cload_eq (F := F) (off25 i k hk)]
  have hS := cslot_set k
  have hv := cread c XA k b _ (cLanded_read c XA k b (cslot k).view.junk)
  unfold mnP mxP
  iintro ⟨⟨Hf, ⟨%vn, %en, Hn⟩, ⟨%vx, %ex, Hm⟩⟩, HW, Hk⟩
  have hn := mn_read c en
  have hm := mx_read c ex
  sl_exec
  sl_step
  iapply Hk
  isplitr [HW]
  swap; · iexists _; iexact HW
  isplitl [Hf]; · iexact Hf
  isplitl [Hf_src]; · iexact Hf_src
  isplitl [Hf_dst]; · iapply (cHas_of_read c XA (cLanded_read c XA k b _)); iexact Hf_dst
  isplitl [Hn]; · iapply mn_written; iexact Hn
  iapply mx_written; iexact Hm

end Runs

end Cert.KernelIdeal.Hand

end
-- ==== Proof.Outs.lean ====
module

public import proofs.«01_k».proof.Proof.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ

section Runs
variable (c : Dev nD) (XA : Buf (Elt F) (xM.view.loc (c : Thread nD τ)))

/-- From `P` and the output's staging buffer at anything, the body at point `i` runs to `Q` and the staging buffer at `Y`. -/
abbrev RunsO (i : grid0.Coords) (P Q : sProp 𝕄) (Y : Vec F S512x2048 .f32) : Prop :=
  ∀ (arg2 : Memref sig .tc .vmem S512x2048 .f32) (h2 : arg2.IsWhole) (W : Waits sig Unit) (K : PUnit → sProp 𝕄),
    iprop(P ∗ outAnyP c arg2 ∗ owes (c : Thread nD τ) 0 W ∗ (iprop(Q ∗ outP c arg2 Y ∗ (∃ W', owes (c : Thread nD τ) 0 W')) -∗ K ⟨⟩))
      ⊢ wp frame (wpE (defs₀ (F := F)) Variants.none c none) Set.univ (body i arg2 h2) K

/-- Writing the staging buffer whole leaves the payload. -/
theorem out_written (arg2 : Memref sig .tc .vmem S512x2048 .f32) (f : Buf (Elt F) (arg2.view.loc (c : Thread nD τ))) (Y : Vec F S512x2048 .f32) :
    ((arg2.view.loc (c : Thread nD τ) ↦[arg2.view.set]{fullShare}
      arg2.view.writes (Elt F) f [⟨Rect.unit (s := S512x2048) ![0, 0] S512x2048.size inb_S512x2048_S512x2048_0_0, Y⟩]) : sProp 𝕄) ⊢ outP c arg2 Y := by
  unfold outP owns; iintro H; iexists _; isplitr; swap; · iexact H
  ipureintro; exact View.read_writes_full _ _ _ _ _

/-- Point 32: the two scalars are computed from the accumulators and stored; then as at points 33 and 34. -/
theorem runF (i : grid0.Coords) (s : Fin 3) (t u : Fin 32) (q : PosShare TreeShare) (h0 : pt i = 32) (h3 : 21 ≤ tgt (pt i)) (h21 : tgt (pt i) < 24)
    (ht : tgt (pt i) = t.val) (hs : tgt (pt i) % 3 = s.val) (hu : tgt (pt i) = u.val + 3) (A B : Vec F S8x2048 .f32) (f : Buf (Elt F) ((bslot s).view.loc (c : Thread nD τ)))
    (hf : (bslot s).view.read (Elt F) f = xblkV c XA t) :
    RunsO c i iprop(cellP c s ∗ bP c s f ∗ xP c XA q u ∗ mnP c A ∗ mxP c B ∗ scAnyP c)
      iprop((∃ f', bFlight c XA q s u f') ∗ mnP c A ∗ mxP c B ∗ scP c (k0_pay16 A B) (k0_pay17 A B)) (k0_pay19 (xv c XA t) (k0_pay16 A B) (k0_pay17 A B)) := by
  have h32 : 32 ≤ pt i := by omega
  intro arg2 h2 W K
  simp only [body, cc0__body_eq_skeleton]; unfold cc0__body_skel
  simp only [k0_part1_eq_skeleton]; unfold k0_part1_skel
  simp (disch := omega) only [(cond1 i).not.2, (cond8 i).not.2, (condMid i).2, (condMid i).not.2, (cond21 i).2, (cond22 i h32).2, (cond22 i h32).not.2,
    (cond23 i h32).not.2, (cond24 i h32).2, (cond25 i h32).2, (cond25 i h32).not.2, (cond26 i h32).2, (cond26 i h32).not.2,
    (cond27 i h32).2, (cond27 i h32).not.2, cond28 i h32, cond29 i h32, ↓reduceDIte]
  simp only [    csem_eq (off44 i s h32 (by omega) (by omega) hs), bslot_eq (off45 i s h32 (by omega) (by omega) hs), xblk_eq (off46 i u h32 hu),
    bload_eq (F := F) (off40 i s h32 (by omega) hs)]
  have hS := bslot_set s
  have hv := bread c XA s t f hf
  unfold outAnyP scP scAnyP mnP mxP
  iintro ⟨⟨Hf, Hb, Hx, ⟨%vn, %en, Hn⟩, ⟨%vx, %ex, Hm⟩, ⟨%fs, Hs⟩⟩, ⟨%fo, Ho⟩, HW, Hk⟩
  have hn := mn_read c en
  have hm := mx_read c ex
  sl_exec
  sl_step
  iapply Hk
  isplitr [HW Ho]
  swap
  · isplitl [Ho]; · sl_unfold_run_names; iapply out_written; iexact Ho
    iexists _; iexact HW
  sl_unfold_run_names
  isplitl [Hf]; · iapply bFlight_over; iexact Hf
  isplitl [Hn]
  · iexists _; isplitr; swap; · iexact Hn
    ipureintro; exact en
  isplitl [Hm]
  · iexists _; isplitr; swap; · iexact Hm
    ipureintro; exact ex
  iexists _; iexact Hs

/-- Points 33 and 34: the target, still in its slot, is written out, and the slot's next block is started. -/
theorem runG (i : grid0.Coords) (s : Fin 3) (t u : Fin 32) (q : PosShare TreeShare) (h32 : 33 ≤ pt i) (h3 : 21 ≤ tgt (pt i)) (h21 : tgt (pt i) < 24)
    (ht : tgt (pt i) = t.val) (hs : tgt (pt i) % 3 = s.val) (hu : tgt (pt i) = u.val + 3) (a z : Elt F .f32) (f : Buf (Elt F) ((bslot s).view.loc (c : Thread nD τ)))
    (hf : (bslot s).view.read (Elt F) f = xblkV c XA t) :
    RunsO c i iprop(cellP c s ∗ bP c s f ∗ xP c XA q u ∗ scP c a z)
      iprop((∃ f', bFlight c XA q s u f') ∗ scP c a z) (k0_pay19 (xv c XA t) a z) := by
  have h33 := h32; replace h32 : 32 ≤ pt i := by omega
  intro arg2 h2 W K
  simp only [body, cc0__body_eq_skeleton]; unfold cc0__body_skel
  simp only [k0_part1_eq_skeleton]; unfold k0_part1_skel
  simp (disch := omega) only [(cond1 i).not.2, (cond8 i).not.2, (condMid i).2, (condMid i).not.2, (cond21 i).2, (cond22 i h32).2, (cond22 i h32).not.2,
    (cond23 i h32).not.2, (cond24 i h32).2, (cond25 i h32).2, (cond25 i h32).not.2, (cond26 i h32).2, (cond26 i h32).not.2,
    (cond27 i h32).2, (cond27 i h32).not.2, cond28 i h32, cond29 i h32, ↓reduceDIte]
  simp only [    csem_eq (off44 i s h32 (by omega) (by omega) hs), bslot_eq (off45 i s h32 (by omega) (by omega) hs), xblk_eq (off46 i u h32 hu),
    bload_eq (F := F) (off40 i s h32 (by omega) hs)]
  have hS := bslot_set s
  have hv := bread c XA s t f hf
  unfold outAnyP scP
  iintro ⟨⟨Hf, Hb, Hx, ⟨%fs, Hs⟩⟩, ⟨%fo, Ho⟩, HW, Hk⟩
  sl_exec
  sl_step
  iapply Hk
  isplitr [HW Ho]
  swap
  · isplitl [Ho]; · sl_unfold_run_names; iapply out_written; iexact Ho
    iexists _; iexact HW
  sl_unfold_run_names
  isplitl [Hf]; · iapply bFlight_over; iexact Hf
  iexists _; iexact Hs

/-- A point past 32 whose target streams: the target lands, is written out, and the slot's next block is started. -/
theorem runH (i : grid0.Coords) (s : Fin 3) (t u : Fin 32) (q : PosShare TreeShare) (h32 : 33 ≤ pt i) (h3 : 3 ≤ tgt (pt i)) (h21 : tgt (pt i) < 21)
    (ht : tgt (pt i) = t.val) (hs : tgt (pt i) % 3 = s.val) (hu : tgt (pt i) = u.val + 3) (a z : Elt F .f32) (f : Buf (Elt F) ((bslot s).view.loc (c : Thread nD τ))) :
    RunsO c i iprop(bFlight c XA q s t f ∗ xP c XA q u ∗ scP c a z)
      iprop((∃ f', bFlight c XA q s u f') ∗ xP c XA q t ∗ scP c a z) (k0_pay19 (xv c XA t) a z) := by
  have h33 := h32; replace h32 : 32 ≤ pt i := by omega
  intro arg2 h2 W K
  simp only [body, cc0__body_eq_skeleton]; unfold cc0__body_skel
  simp only [k0_part1_eq_skeleton]; unfold k0_part1_skel
  simp (disch := omega) only [(cond1 i).not.2, (cond8 i).not.2, (condMid i).2, (condMid i).not.2, (cond21 i).2, (cond22 i h32).2, (cond22 i h32).not.2,
    (cond23 i h32).not.2, (cond24 i h32).2, (cond25 i h32).2, (cond25 i h32).not.2, (cond26 i h32).2, (cond26 i h32).not.2,
    (cond27 i h32).2, (cond27 i h32).not.2, cond28 i h32, cond29 i h32, ↓reduceDIte]
  simp only [csem_eq (off36 i s h32 (by omega) hs), bslot_eq (off37 i s h32 (by omega) hs), xblk_eq (off38 i t h32 ht),
    csem_eq (off44 i s h32 (by omega) (by omega) hs), bslot_eq (off45 i s h32 (by omega) (by omega) hs), xblk_eq (off46 i u h32 hu),
    bload_eq (F := F) (off40 i s h32 (by omega) hs)]
  have hS := bslot_set s
  have hv := bread c XA s t _ (bLanded_read c XA s t (bslot s).view.junk)
  unfold outAnyP scP
  iintro ⟨⟨Hf, Hx, ⟨%fs, Hs⟩⟩, ⟨%fo, Ho⟩, HW, Hk⟩
  sl_exec
  sl_step
  iapply Hk
  isplitr [HW Ho]
  swap
  · isplitl [Ho]; · sl_unfold_run_names; iapply out_written; iexact Ho
    iexists _; iexact HW
  sl_unfold_run_names
  isplitl [Hf]; · iapply bFlight_over; iexact Hf
  isplitl [Hf_src]; · iexact Hf_src
  iexists _; iexact Hs

/-- The last three streamed targets: the target lands and is written out; nothing is left to start. -/
theorem runI (i : grid0.Coords) (s : Fin 3) (t : Fin 32) (q : PosShare TreeShare) (h32 : 33 ≤ pt i) (h3 : tgt (pt i) < 3)
    (ht : tgt (pt i) = t.val) (hs : tgt (pt i) % 3 = s.val) (a z : Elt F .f32) (f : Buf (Elt F) ((bslot s).view.loc (c : Thread nD τ))) :
    RunsO c i iprop(bFlight c XA q s t f  ∗ scP c a z)
      iprop(cellP c s ∗ xP c XA q t ∗ bHas c XA s t ∗ scP c a z) (k0_pay19 (xv c XA t) a z) := by
  have h33 := h32; replace h32 : 32 ≤ pt i := by omega
  intro arg2 h2 W K
  simp only [body, cc0__body_eq_skeleton]; unfold cc0__body_skel
  simp only [k0_part1_eq_skeleton]; unfold k0_part1_skel
  simp (disch := omega) only [(cond1 i).not.2, (cond8 i).not.2, (condMid i).2, (condMid i).not.2, (cond21 i).2, (cond22 i h32).2, (cond22 i h32).not.2,
    (cond23 i h32).not.2, (cond24 i h32).2, (cond25 i h32).2, (cond25 i h32).not.2, (cond26 i h32).2, (cond26 i h32).not.2,
    (cond27 i h32).2, (cond27 i h32).not.2, cond28 i h32, cond29 i h32, ↓reduceDIte]
  simp only [csem_eq (off36 i s h32 (by omega) hs), bslot_eq (off37 i s h32 (by omega) hs), xblk_eq (off38 i t h32 ht),
    bload_eq (F := F) (off40 i s h32 (by omega) hs)]
  have hS := bslot_set s
  have hv := bread c XA s t _ (bLanded_read c XA s t (bslot s).view.junk)
  unfold outAnyP scP
  iintro ⟨⟨Hf, ⟨%fs, Hs⟩⟩, ⟨%fo, Ho⟩, HW, Hk⟩
  sl_exec
  sl_step
  iapply Hk
  isplitr [HW Ho]
  swap
  · isplitl [Ho]; · sl_unfold_run_names; iapply out_written; iexact Ho
    iexists _; iexact HW
  sl_unfold_run_names
  isplitl [Hf]; · iexact Hf
  isplitl [Hf_src]; · iexact Hf_src
  isplitl [Hf_dst]; · iapply (bHas_of_read c XA (bLanded_read c XA s t _)); iexact Hf_dst
  iexists _; iexact Hs

/-- The cached targets: the target is written out of the cache. -/
theorem runJ (i : grid0.Coords) (k : Fin 8) (t : Fin 32) (h32 : 33 ≤ pt i) (hk : tgt (pt i) = 24 + k.val)
    (ht : tgt (pt i) = t.val) (a z : Elt F .f32) (f : Buf (Elt F) ((cslot k).view.loc (c : Thread nD τ)))
    (hf : (cslot k).view.read (Elt F) f = xblkV c XA t) :
    RunsO c i iprop(cP c k f ∗ scP c a z)
      iprop(cP c k f ∗ scP c a z) (k0_pay18 (xv c XA t) a z) := by
  have h33 := h32; replace h32 : 32 ≤ pt i := by omega
  intro arg2 h2 W K
  simp only [body, cc0__body_eq_skeleton]; unfold cc0__body_skel
  simp only [k0_part1_eq_skeleton]; unfold k0_part1_skel
  simp (disch := omega) only [(cond1 i).not.2, (cond8 i).not.2, (condMid i).2, (condMid i).not.2, (cond21 i).2, (cond22 i h32).2, (cond22 i h32).not.2,
    (cond23 i h32).not.2, (cond24 i h32).2, (cond25 i h32).2, (cond25 i h32).not.2, (cond26 i h32).2, (cond26 i h32).not.2,
    (cond27 i h32).2, (cond27 i h32).not.2, cond28 i h32, cond29 i h32, ↓reduceDIte]
  simp only [cload_eq (F := F) (off39 i k h32 hk)]
  have hS := cslot_set k
  have hv := cread c XA k t f hf
  unfold outAnyP scP
  iintro ⟨⟨Hf, ⟨%fs, Hs⟩⟩, ⟨%fo, Ho⟩, HW, Hk⟩
  sl_exec
  sl_step
  iapply Hk
  isplitr [HW Ho]
  swap
  · isplitl [Ho]; · sl_unfold_run_names; iapply out_written; iexact Ho
    iexists _; iexact HW
  sl_unfold_run_names
  isplitl [Hf]; · iexact Hf
  iexists _; iexact Hs

end Runs

end Cert.KernelIdeal.Hand

end
-- ==== Proof.Tables.lean ====
/-
  What each slot is doing before each grid point: which block is in flight to it, or which it holds; and the same of the
  cache's slots. The tables' steps are decided over the 64 points.
-/
module

public import proofs.«01_k».proof.Proof.Slots

@[expose] public section

set_option maxRecDepth 16384

namespace Cert.KernelIdeal.Hand

/-- A streaming slot with its semaphore: not yet used; block `b` in flight to it; block `b` in flight to the cache on its
    semaphore (the slot itself then holds block `21 + s`); at rest, holding block `b`. -/
inductive GS | fresh | bufFl (b : Fin 32) | cacheFl (b : Fin 32) | idle (b : Fin 32)
  deriving DecidableEq

/-- A cache slot: not yet used; a block in flight to it; its block landed. -/
inductive CS | any | fly | has
  deriving DecidableEq

/-- The number `n` as a block. -/
abbrev bk (n : ℕ) : Fin 32 := Fin.ofNat 32 n

/-- How many of the blocks that are not cached are still to be written before point `p ≥ 32`. -/
def left (p : ℕ) : ℕ :=
  if p ≤ 35 then 56 - p else if p ≤ 59 then 21 - (2 * ((p - 35) / 3) + (p - 35) % 3) else 64 - p

/-- Slot `s` and semaphore `s` before point `p`. -/
def gst (p : ℕ) (s : Fin 3) : GS :=
  if p = 0 then .fresh
  else if p < 32 then
    let b := p + (s.val + 3 - p % 3) % 3
    if b < 24 then .bufFl (bk b) else if b < 32 then .cacheFl (bk b) else .idle (bk (21 + s.val))
  else
    let d := (left p + 2 - s.val) % 3
    if d < left p then (if 21 ≤ left p - 1 - d then .idle (bk (left p - 1 - d)) else .bufFl (bk (left p - 1 - d)))
    else .idle (bk s.val)

/-- Cache slot `k` before point `p`. -/
def cst (p : ℕ) (k : Fin 8) : CS := if p ≤ 21 + k.val then .any else if p ≤ 24 + k.val then .fly else .has

abbrev sl (n : ℕ) : Fin 3 := Fin.ofNat 3 n
abbrev ck (n : ℕ) : Fin 8 := Fin.ofNat 8 n

theorem gst_zero : ∀ s : Fin 3, gst 0 s = .fresh := by decide +kernel
theorem gst_one : gst 1 0 = .bufFl 3 ∧ gst 1 1 = .bufFl 1 ∧ gst 1 2 = .bufFl 2 := by decide +kernel
theorem gst_last : ∀ s : Fin 3, gst 64 s = .idle (bk s.val) := by decide +kernel
theorem cst_zero : ∀ k : Fin 8, cst 0 k = .any := by decide +kernel
theorem cst_last : ∀ k : Fin 8, cst 64 k = .has := by decide +kernel

/-- Points 1 to 31: only the point's own slot changes; -/
theorem gst_keep : ∀ p : Fin 64, 0 < p.val → p.val < 32 → ∀ s : Fin 3, s ≠ sl p.val → gst p.val s = gst (p.val + 1) s := by decide +kernel
/-- points from 32: only the target's. -/
theorem gst_keep' : ∀ p : Fin 64, 32 ≤ p.val → tgt p.val < 24 → ∀ s : Fin 3, s ≠ sl (tgt p.val) → gst p.val s = gst (p.val + 1) s := by decide +kernel
theorem gst_keepC : ∀ p : Fin 64, 32 ≤ p.val → 24 ≤ tgt p.val → ∀ s : Fin 3, gst p.val s = gst (p.val + 1) s := by decide +kernel
theorem gst_B : ∀ p : Fin 64, 0 < p.val → p.val < 21 → gst p.val (sl p.val) = .bufFl (bk p.val) ∧ gst (p.val + 1) (sl p.val) = .bufFl (bk (p.val + 3)) := by decide +kernel
theorem gst_C : ∀ p : Fin 64, 21 ≤ p.val → p.val < 24 → gst p.val (sl p.val) = .bufFl (bk p.val) ∧ gst (p.val + 1) (sl p.val) = .cacheFl (bk (p.val + 3)) := by decide +kernel
theorem gst_D : ∀ p : Fin 64, 24 ≤ p.val → p.val < 29 → gst p.val (sl p.val) = .cacheFl (bk p.val) ∧ gst (p.val + 1) (sl p.val) = .cacheFl (bk (p.val + 3)) := by decide +kernel
theorem gst_E : ∀ p : Fin 64, 29 ≤ p.val → p.val < 32 → gst p.val (sl p.val) = .cacheFl (bk p.val) ∧ gst (p.val + 1) (sl p.val) = .idle (bk (21 + (sl p.val).val)) := by decide +kernel
theorem gst_G : ∀ p : Fin 64, 32 ≤ p.val → p.val < 35 → gst p.val (sl (tgt p.val)) = .idle (bk (tgt p.val)) ∧ gst (p.val + 1) (sl (tgt p.val)) = .bufFl (bk (tgt p.val - 3)) := by decide +kernel
theorem gst_H : ∀ p : Fin 64, 32 ≤ p.val → 3 ≤ tgt p.val → tgt p.val < 21 → gst p.val (sl (tgt p.val)) = .bufFl (bk (tgt p.val)) ∧ gst (p.val + 1) (sl (tgt p.val)) = .bufFl (bk (tgt p.val - 3)) := by decide +kernel
theorem gst_I : ∀ p : Fin 64, 32 ≤ p.val → tgt p.val < 3 → gst p.val (sl (tgt p.val)) = .bufFl (bk (tgt p.val)) ∧ gst (p.val + 1) (sl (tgt p.val)) = .idle (bk (tgt p.val)) := by decide +kernel
theorem tgt_res : ∀ p : Fin 64, 32 ≤ p.val → tgt p.val < 32 ∧ (p.val < 35 ↔ 21 ≤ tgt p.val ∧ tgt p.val < 24) := by decide +kernel

theorem cst_keep : ∀ p : Fin 64, p.val < 21 → ∀ k, cst p.val k = cst (p.val + 1) k := by decide +kernel
theorem cst_C : ∀ p : Fin 64, 21 ≤ p.val → p.val < 24 → cst p.val (ck (p.val - 21)) = .any ∧ cst (p.val + 1) (ck (p.val - 21)) = .fly
    ∧ ∀ k, k ≠ ck (p.val - 21) → cst p.val k = cst (p.val + 1) k := by decide +kernel
theorem cst_D : ∀ p : Fin 64, 24 ≤ p.val → p.val < 29 → cst p.val (ck (p.val - 21)) = .any ∧ cst (p.val + 1) (ck (p.val - 21)) = .fly
    ∧ cst p.val (ck (p.val - 24)) = .fly ∧ cst (p.val + 1) (ck (p.val - 24)) = .has ∧ ck (p.val - 24) ≠ ck (p.val - 21)
    ∧ ∀ k, k ≠ ck (p.val - 21) → k ≠ ck (p.val - 24) → cst p.val k = cst (p.val + 1) k := by decide +kernel
theorem cst_E : ∀ p : Fin 64, 29 ≤ p.val → p.val < 32 → cst p.val (ck (p.val - 24)) = .fly ∧ cst (p.val + 1) (ck (p.val - 24)) = .has
    ∧ ∀ k, k ≠ ck (p.val - 24) → cst p.val k = cst (p.val + 1) k := by decide +kernel
theorem cst_late : ∀ p : Fin 64, 32 ≤ p.val → ∀ k, cst p.val k = .has ∧ cst (p.val + 1) k = .has := by decide +kernel

end Cert.KernelIdeal.Hand
-- ==== Proof.Groups.lean ====
/-
  The kernel's invariant: what the core holds before each grid point. A read share of the input goes with each of the
  three semaphores; a slot and its semaphore are at rest or carry a flight, as the tables say; the cache's slots fill in
  order; the accumulators hold the running minimum and maximum, and from point 32 on the scalar memory holds the scale
  and the zero point.
-/
module

public import proofs.«01_k».proof.Proof.Outs
public import proofs.«01_k».proof.Proof.Tables

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ

/-! ## A big conjunction changed at one index, or at two -/

theorem focus {I : Type} [Fintype I] [DecidableEq I] {f g : I → sProp 𝕄} (i : I) (h : ∀ j, j ≠ i → f j = g j) :
    bigSep Finset.univ f ⊢ iprop(f i ∗ (g i -∗ bigSep Finset.univ g)) := by
  rw [bigSep_univ_split i, bigSep_univ_split (Φ := g) i, bigSep_congr (Ψ := g) fun j hj => h j (Finset.ne_of_mem_erase hj)]
  show iprop(f i ∗ bigSep (Finset.univ.erase i) g) ⊢ iprop(f i ∗ (g i -∗ g i ∗ bigSep (Finset.univ.erase i) g))
  iintro ⟨Hi, Hr⟩; isplitl [Hi]; · iexact Hi
  iintro Hg; isplitl [Hg]; · iexact Hg
  iexact Hr

theorem focus₂ {I : Type} [Fintype I] [DecidableEq I] {f g : I → sProp 𝕄} (i j : I) (hij : i ≠ j) (h : ∀ k, k ≠ j → k ≠ i → f k = g k) :
    bigSep Finset.univ f ⊢ iprop(f i ∗ f j ∗ (g i -∗ g j -∗ bigSep Finset.univ g)) := by
  have hj : j ∈ Finset.univ.erase i := Finset.mem_erase.2 ⟨hij.symm, Finset.mem_univ j⟩
  rw [bigSep_univ_split i, bigSep_univ_split (Φ := g) i, bigSep_erase hj, bigSep_erase (Φ := g) hj,
    bigSep_congr (Ψ := g) fun k hk => h k (Finset.ne_of_mem_erase hk) (Finset.ne_of_mem_erase (Finset.mem_of_mem_erase hk))]
  show iprop(f i ∗ f j ∗ bigSep ((Finset.univ.erase i).erase j) g) ⊢ iprop(f i ∗ f j ∗ (g i -∗ g j -∗ g i ∗ g j ∗ bigSep ((Finset.univ.erase i).erase j) g))
  iintro ⟨Hi, Hj, Hr⟩; isplitl [Hi]; · iexact Hi
  isplitl [Hj]; · iexact Hj
  iintro Hg Hh; isplitl [Hg]; · iexact Hg
  isplitl [Hh]; · iexact Hh
  iexact Hr

/-! ## The input's read shares -/

section Inv
variable (c : Dev nD) (XA : Buf (Elt F) (xM.view.loc (c : Thread nD τ)))

/-- The read share that goes with semaphore `s`. -/
abbrev qs (s : Fin 3) : PosShare TreeShare := Transfers.shareTok fullShare 3 s

/-- The elements of block `b` of the input. -/
def xS (b : Fin 32) : Finset main_arg0.ty.Idx := (Rect.unit (s := S16384x2048) (blkOff b) S512x2048.size (blkOff_inb b)).set

theorem xblk_set (b : Fin 32) : (xblk b).view.set = xS b := View.set_slice_whole _ _

theorem xS_disjoint {b b' : Fin 32} (h : b ≠ b') : Disjoint (xS b) (xS b') := by
  have h' : b.val ≠ b'.val := fun e => h (Fin.ext e)
  refine Rect.unit_disjoint (0 : Fin 2) ?_
  show 512 * b.val + 512 ≤ 512 * b'.val ∨ 512 * b'.val + 512 ≤ 512 * b.val
  omega

/-- The whole input at share `q`; the input without block `b`. -/
def xAll (q : PosShare TreeShare) : sProp 𝕄 := xM.view.loc (c : Thread nD τ) ↦[Finset.univ]{q} XA
def xRest (q : PosShare TreeShare) (b : Fin 32) : sProp 𝕄 := xM.view.loc (c : Thread nD τ) ↦[Finset.univ \ xS b]{q} XA

theorem xP_eq (q : PosShare TreeShare) (b : Fin 32) : xP c XA q b = (xM.view.loc (c : Thread nD τ) ↦[xS b]{q} XA : sProp 𝕄) := by
  unfold xP; rw [xblk_set b]; rfl

theorem xAll_split (q : PosShare TreeShare) (b : Fin 32) : xAll c XA q ⊢ iprop(xP c XA q b ∗ xRest c XA q b) := by
  rw [xP_eq]; exact (pointsTo_split_subset (Finset.subset_univ _)).1
theorem xAll_join (q : PosShare TreeShare) (b : Fin 32) : iprop(xP c XA q b ∗ xRest c XA q b) ⊢ xAll c XA q := by
  rw [xP_eq]; exact (pointsTo_split_subset (Finset.subset_univ _)).2

/-- With block `b` away, block `b'` can be taken, and `b` put back in its stead. -/
theorem xRest_swap (q : PosShare TreeShare) {b b' : Fin 32} (h : b ≠ b') :
    xRest c XA q b ⊢ iprop(xP c XA q b' ∗ (xP c XA q b -∗ xRest c XA q b')) := by
  have h1 : xS b' ⊆ Finset.univ \ xS b := fun i hi => Finset.mem_sdiff.2 ⟨Finset.mem_univ _, Finset.disjoint_right.1 (xS_disjoint h) hi⟩
  have h2 : xS b ⊆ Finset.univ \ xS b' := fun i hi => Finset.mem_sdiff.2 ⟨Finset.mem_univ _, Finset.disjoint_left.1 (xS_disjoint h) hi⟩
  have h3 : (Finset.univ \ xS b) \ xS b' = (Finset.univ \ xS b') \ xS b := by rw [sdiff_sdiff, sdiff_sdiff, sup_comm]
  rw [xP_eq, xP_eq]; unfold xRest
  iintro H
  ihave H := (pointsTo_split_subset (q := q) (f := XA) h1).1 $$ H
  icases H with ⟨H1, H2⟩
  isplitl [H1]; · iexact H1
  iintro Hb
  rw [h3]
  iapply (pointsTo_split_subset (q := q) (f := XA) h2).2
  isplitl [Hb]; · iexact Hb
  iexact H2

/-! ## The groups -/

/-- What goes with slot `s` and semaphore `s`. -/
def grp (s : Fin 3) : GS → sProp 𝕄
  | .fresh => iprop(cellP c s ∗ xAll c XA (qs s) ∗ ∃ f, bP c s f)
  | .bufFl b => iprop((∃ f, bFlight c XA (qs s) s b f) ∗ xRest c XA (qs s) b)
  | .cacheFl b => iprop((∃ f, cFlight c XA (qs s) s (ck (b.val - 24)) b f) ∗ xRest c XA (qs s) b ∗ bHas c XA s (bk (21 + s.val)))
  | .idle b => iprop(cellP c s ∗ xAll c XA (qs s) ∗ bHas c XA s b)

/-- What goes with the cache's slot `k`. -/
def cgrp (k : Fin 8) : CS → sProp 𝕄
  | .any => iprop(∃ f, cP c k f)
  | .fly => iprop(emp)
  | .has => cHas c XA k (bk (24 + k.val))

/-- The running minimum and maximum after blocks `0 … n`. -/
def aMn : ℕ → Vec F S8x2048 .f32
  | 0 => k0_pay11 (xv c XA (bk 0))
  | n + 1 => k0_pay13 (xv c XA (bk (n + 1))) (aMn n)
def aMx : ℕ → Vec F S8x2048 .f32
  | 0 => k0_pay12 (xv c XA (bk 0))
  | n + 1 => k0_pay14 (xv c XA (bk (n + 1))) (aMx n)

/-- The scale and the zero point. -/
def scaleV : Elt F .f32 := k0_pay16 (aMn c XA 31) (aMx c XA 31)
def zpV : Elt F .f32 := k0_pay17 (aMn c XA 31) (aMx c XA 31)

def accP (p : ℕ) : sProp 𝕄 :=
  if p = 0 then iprop((∃ A, mnP c A) ∗ ∃ B, mxP c B) else iprop(mnP c (aMn c XA (min p 32 - 1)) ∗ mxP c (aMx c XA (min p 32 - 1)))
def scalP (p : ℕ) : sProp 𝕄 := if p ≤ 32 then scAnyP c else scP c (scaleV c XA) (zpV c XA)

/-- The invariant before point `p`. -/
def Inv (p : ℕ) : sProp 𝕄 :=
  iprop(bigSep Finset.univ (fun s => grp c XA s (gst p s)) ∗ bigSep Finset.univ (fun k => cgrp c XA k (cst p k)) ∗ accP c XA p ∗ scalP c XA p
    ∗ xAll c XA (Transfers.shareDrop fullShare 3) ∗ ∃ r, prngReg c r)

/-! ## Running with the rest of the invariant kept -/

theorem Runs.of_frame {i : grid0.Coords} {I I' Q : sProp 𝕄} {X : Type} {P : X → sProp 𝕄} (hI : I ⊢ iprop(∃ x, P x ∗ (Q -∗ I')))
    (hr : ∀ x, Runs c i (P x) Q) : Runs c i I I' := by
  intro arg2 h2 W K
  iintro ⟨HI, HO, Hk⟩
  ihave HI := hI $$ HI
  icases HI with ⟨%x, HP, HQ⟩
  iapply hr x arg2 h2 W K
  isplitl [HP]; · iexact HP
  isplitl [HO]; · iexact HO
  iintro ⟨Hq, HO'⟩
  iapply Hk
  isplitl [Hq HQ]; · iapply HQ; iexact Hq
  iexact HO'

theorem RunsO.of_frame {i : grid0.Coords} {I I' : sProp 𝕄} {Y : Vec F S512x2048 .f32} {X : Type} {h : X → Prop} {P Q : X → sProp 𝕄}
    (hI : I ⊢ iprop(∃ x, ⌜h x⌝ ∗ P x ∗ (Q x -∗ I'))) (hr : ∀ x, h x → RunsO c i (P x) (Q x) Y) : RunsO c i I I' Y := by
  intro arg2 h2 W K
  iintro ⟨HI, HX, HO, Hk⟩
  ihave HI := hI $$ HI
  icases HI with ⟨%x, %hx, HP, HQ⟩
  iapply hr x hx arg2 h2 W K
  isplitl [HP]; · iexact HP
  isplitl [HX]; · iexact HX
  isplitl [HO]; · iexact HO
  iintro ⟨Hq, HY, HO'⟩
  iapply Hk
  isplitl [Hq HQ]; · iapply HQ; iexact Hq
  isplitl [HY]; · iexact HY
  iexact HO'

end Inv

end Cert.KernelIdeal.Hand

end
-- ==== Proof.Steps.lean ====
/-
  One grid point: from the invariant before it to the invariant after it, for each of the kinds of point, and then for
  every point.
-/
module

public import proofs.«01_k».proof.Proof.Groups

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ

section Steps
variable (c : Dev nD) (XA : Buf (Elt F) (xM.view.loc (c : Thread nD τ)))

theorem bk_val {n : ℕ} (h : n < 32) : n = (bk n).val := by show n = n % 32; omega
theorem sl_val (n : ℕ) : n % 3 = (sl n).val := rfl
theorem ck_val {n : ℕ} (h : n < 8) : n = (ck n).val := by show n = n % 8; omega
theorem bk_ne {n m : ℕ} (hn : n < 32) (hm : m < 32) (h : n ≠ m) : bk n ≠ bk m := fun e => h (by rw [bk_val hn, bk_val hm, e])

/-! ## The accumulators' part and the scalars' part at a point -/

theorem accP_before {p : ℕ} (h0 : 0 < p) (h1 : p ≤ 32) : accP c XA p = iprop(mnP c (aMn c XA (p - 1)) ∗ mxP c (aMx c XA (p - 1))) := by
  unfold accP; rw [if_neg (by omega), Nat.min_eq_left h1]
theorem accP_after {p : ℕ} (h0 : 0 < p) (h1 : p < 32) :
    accP c XA (p + 1) = iprop(mnP c (k0_pay13 (xv c XA (bk p)) (aMn c XA (p - 1))) ∗ mxP c (k0_pay14 (xv c XA (bk p)) (aMx c XA (p - 1)))) := by
  rw [accP_before c XA (by omega) (by omega)]; obtain ⟨n, rfl⟩ : ∃ n, p = n + 1 := ⟨p - 1, by omega⟩
  rfl
theorem accP_late {p : ℕ} (h : 32 ≤ p) : accP c XA p = iprop(mnP c (aMn c XA 31) ∗ mxP c (aMx c XA 31)) := by
  unfold accP; rw [if_neg (by omega), Nat.min_eq_right h]
theorem scalP_early {p : ℕ} (h : p ≤ 32) : scalP c XA p = scAnyP c := if_pos h
theorem scalP_late {p : ℕ} (h : 33 ≤ p) : scalP c XA p = scP c (scaleV c XA) (zpV c XA) := if_neg (by omega)

/-! ## The part of the invariant a point changes -/

/-- Before a point of the first pass: the point's own group, the cache, the accumulators, and a way back. -/
theorem split1 {p : ℕ} (h0 : 0 < p) (h1 : p < 32) :
    Inv c XA p ⊢ iprop(grp c XA (sl p) (gst p (sl p)) ∗ bigSep Finset.univ (fun k => cgrp c XA k (cst p k))
      ∗ mnP c (aMn c XA (p - 1)) ∗ mxP c (aMx c XA (p - 1))
      ∗ (iprop(grp c XA (sl p) (gst (p + 1) (sl p)) ∗ bigSep Finset.univ (fun k => cgrp c XA k (cst (p + 1) k))
        ∗ mnP c (k0_pay13 (xv c XA (bk p)) (aMn c XA (p - 1))) ∗ mxP c (k0_pay14 (xv c XA (bk p)) (aMx c XA (p - 1)))) -∗ Inv c XA (p + 1))) := by
  unfold Inv
  rw [accP_before c XA h0 (by omega), accP_after c XA h0 h1, scalP_early c XA (by omega : p ≤ 32), scalP_early c XA (by omega : p + 1 ≤ 32)]
  iintro ⟨HG, HC, ⟨HA, HB⟩, HS, Hx, Hr⟩
  ihave HG := focus (g := fun s => grp c XA s (gst (p + 1) s)) (sl p) (fun s hs => by rw [gst_keep ⟨p, by omega⟩ h0 h1 s hs]) $$ HG
  icases HG with ⟨Hs, HG⟩
  isplitl [Hs]; · iexact Hs
  isplitl [HC]; · iexact HC
  isplitl [HA]; · iexact HA
  isplitl [HB]; · iexact HB
  iintro ⟨Hs, HC, HA, HB⟩
  isplitl [Hs HG]; · iapply HG; iexact Hs
  isplitl [HC]; · iexact HC
  isplitl [HA HB]; · isplitl [HA]; · iexact HA
                     iexact HB
  isplitl [HS]; · iexact HS
  isplitl [Hx]; · iexact Hx
  iexact Hr

theorem cache_late {p : ℕ} (h0 : 32 ≤ p) (h1 : p < 64) :
    bigSep Finset.univ (fun k => cgrp c XA k (cst p k)) = bigSep Finset.univ (fun k => cgrp c XA k (cst (p + 1) k)) :=
  bigSep_congr fun k _ => by obtain ⟨e1, e2⟩ := cst_late ⟨p, h1⟩ h0 k; rw [e1, e2]

/-- Before a point of the second pass whose block is not cached: the target's group, the accumulators, the scalars, and a
    way back. -/
theorem split2 {p : ℕ} (h0 : 32 ≤ p) (h1 : p < 64) (ht : tgt p < 24) :
    Inv c XA p ⊢ iprop(grp c XA (sl (tgt p)) (gst p (sl (tgt p))) ∗ mnP c (aMn c XA 31) ∗ mxP c (aMx c XA 31) ∗ scalP c XA p
      ∗ (iprop(grp c XA (sl (tgt p)) (gst (p + 1) (sl (tgt p))) ∗ mnP c (aMn c XA 31) ∗ mxP c (aMx c XA 31) ∗ scP c (scaleV c XA) (zpV c XA))
        -∗ Inv c XA (p + 1))) := by
  unfold Inv
  rw [accP_late c XA h0, accP_late c XA (by omega : 32 ≤ p + 1), scalP_late c XA (by omega : 33 ≤ p + 1), cache_late c XA h0 h1]
  iintro ⟨HG, HC, ⟨HA, HB⟩, HS, Hx, Hr⟩
  ihave HG := focus (g := fun s => grp c XA s (gst (p + 1) s)) (sl (tgt p)) (fun s hs => by rw [gst_keep' ⟨p, h1⟩ h0 ht s hs]) $$ HG
  icases HG with ⟨Hs, HG⟩
  isplitl [Hs]; · iexact Hs
  isplitl [HA]; · iexact HA
  isplitl [HB]; · iexact HB
  isplitl [HS]; · iexact HS
  iintro ⟨Hs, HA, HB, HS⟩
  isplitl [Hs HG]; · iapply HG; iexact Hs
  isplitl [HC]; · iexact HC
  isplitl [HA HB]; · isplitl [HA]; · iexact HA
                     iexact HB
  isplitl [HS]; · iexact HS
  isplitl [Hx]; · iexact Hx
  iexact Hr

/-- Before a point of the second pass whose block is cached in slot `k`: that slot, the scalars, and a way back. -/
theorem split3 {p : ℕ} (k : Fin 8) (h0 : 33 ≤ p) (h1 : p < 64) (ht : 24 ≤ tgt p) :
    Inv c XA p ⊢ iprop(cHas c XA k (bk (24 + k.val)) ∗ scP c (scaleV c XA) (zpV c XA)
      ∗ (iprop(cHas c XA k (bk (24 + k.val)) ∗ scP c (scaleV c XA) (zpV c XA)) -∗ Inv c XA (p + 1))) := by
  have h32 : 32 ≤ p := by omega
  unfold Inv
  rw [accP_late c XA h32, accP_late c XA (by omega : 32 ≤ p + 1), scalP_late c XA h0, scalP_late c XA (by omega : 33 ≤ p + 1),
    cache_late c XA h32 h1, bigSep_congr (Φ := fun s => grp c XA s (gst p s)) (Ψ := fun s => grp c XA s (gst (p + 1) s))
      fun s _ => by rw [gst_keepC ⟨p, h1⟩ h32 ht s]]
  iintro ⟨HG, HC, HA, HS, Hx, Hr⟩
  ihave HC := focus (g := fun k => cgrp c XA k (cst (p + 1) k)) k (fun _ _ => rfl) $$ HC
  rw [show cgrp c XA k (cst (p + 1) k) = cHas c XA k (bk (24 + k.val)) by rw [(cst_late ⟨p, h1⟩ h32 k).2]; rfl]
  icases HC with ⟨Hk, HC⟩
  isplitl [Hk]; · iexact Hk
  isplitl [HS]; · iexact HS
  iintro ⟨Hk, HS⟩
  isplitl [HG]; · iexact HG
  isplitl [Hk HC]; · iapply HC; iexact Hk
  isplitl [HA]; · iexact HA
  isplitl [HS]; · iexact HS
  isplitl [Hx]; · iexact Hx
  iexact Hr

/-! ## The points of the first pass -/

theorem grp_bufFl (s : Fin 3) (b : Fin 32) : grp c XA s (.bufFl b) = iprop((∃ f, bFlight c XA (qs s) s b f) ∗ xRest c XA (qs s) b) := rfl
theorem grp_cacheFl (s : Fin 3) (b : Fin 32) : grp c XA s (.cacheFl b)
    = iprop((∃ f, cFlight c XA (qs s) s (ck (b.val - 24)) b f) ∗ xRest c XA (qs s) b ∗ bHas c XA s (bk (21 + s.val))) := rfl
theorem grp_idle (s : Fin 3) (b : Fin 32) : grp c XA s (.idle b) = iprop(cellP c s ∗ xAll c XA (qs s) ∗ bHas c XA s b) := rfl
theorem grp_fresh (s : Fin 3) : grp c XA s .fresh = iprop(cellP c s ∗ xAll c XA (qs s) ∗ ∃ f, bP c s f) := rfl
theorem cgrp_any (k : Fin 8) : cgrp c XA k .any = iprop(∃ f, cP c k f) := rfl
theorem cgrp_fly (k : Fin 8) : cgrp c XA k .fly = iprop(emp) := rfl
theorem cgrp_has (k : Fin 8) : cgrp c XA k .has = cHas c XA k (bk (24 + k.val)) := rfl

/-- Point 0. -/
theorem stepA (i : grid0.Coords) (h0 : pt i = 0) : Runs c i (Inv c XA 0) (Inv c XA 1) := by
  refine Runs.of_frame c ?_ fun x : (_ × _ × _) × _ × _ => runA c XA i (qs 0) (qs 1) (qs 2) h0 x.1.1 x.1.2.1 x.1.2.2 x.2.1 x.2.2
  unfold Inv
  rw [Ring.bigSep_fin3, Ring.bigSep_fin3, scalP_early c XA (by omega : 0 ≤ 32), scalP_early c XA (by omega : 1 ≤ 32), gst_zero 0, gst_zero 1, gst_zero 2,
    gst_one.1, gst_one.2.1, gst_one.2.2, grp_fresh, grp_fresh, grp_fresh, grp_bufFl, grp_bufFl, grp_bufFl,
    bigSep_congr (Ψ := fun k => cgrp c XA k (cst 1 k)) fun k _ => by rw [show cst 0 k = cst 1 k from cst_keep 0 (by decide) k],
    show accP c XA 0 = iprop((∃ A, mnP c A) ∗ ∃ B, mxP c B) from if_pos rfl, accP_before c XA (by omega : 0 < 1) (by omega)]
  iintro ⟨⟨⟨Hc0, Hx0, %f0, Hb0⟩, ⟨Hc1, Hx1, %f1, Hb1⟩, ⟨Hc2, Hx2, %f2, Hb2⟩⟩, HC, ⟨⟨%A, HA⟩, %B, HB⟩, HS, Hx, Hr⟩
  ihave Hx0 := xAll_split c XA (qs 0) 0 $$ Hx0
  icases Hx0 with ⟨Hx0, Hr0⟩
  ihave Hr0 := xRest_swap c XA (qs 0) (b := 0) (b' := 3) (by decide) $$ Hr0
  icases Hr0 with ⟨Hx3, Hr0⟩
  ihave Hx1 := xAll_split c XA (qs 1) 1 $$ Hx1
  icases Hx1 with ⟨Hx1, Hr1⟩
  ihave Hx2 := xAll_split c XA (qs 2) 2 $$ Hx2
  icases Hx2 with ⟨Hx2, Hr2⟩
  iexists ((f0, f1, f2), A, B)
  isplitr [HC HS Hx Hr Hr0 Hr1 Hr2]
  · isplitl [Hc0]; · iexact Hc0
    isplitl [Hc1]; · iexact Hc1
    isplitl [Hc2]; · iexact Hc2
    isplitl [Hb0]; · iexact Hb0
    isplitl [Hb1]; · iexact Hb1
    isplitl [Hb2]; · iexact Hb2
    isplitl [Hx0]; · iexact Hx0
    isplitl [Hx1]; · iexact Hx1
    isplitl [Hx2]; · iexact Hx2
    isplitl [Hx3]; · iexact Hx3
    isplitl [HA]; · iexact HA
    iexact HB
  iintro ⟨Hf0, Hf1, Hf2, Hx0, HA, HB⟩
  isplitr [HC HS Hx Hr HA HB]
  · isplitl [Hf0 Hx0 Hr0]
    · isplitl [Hf0]; · iexact Hf0
      iapply Hr0; iexact Hx0
    isplitl [Hf1 Hr1]
    · isplitl [Hf1]; · iexact Hf1
      iexact Hr1
    isplitl [Hf2]; · iexact Hf2
    iexact Hr2
  isplitl [HC]; · iexact HC
  isplitl [HA HB]; · isplitl [HA]; · iexact HA
                     iexact HB
  isplitl [HS]; · iexact HS
  isplitl [Hx]; · iexact Hx
  iexact Hr

theorem stepB (i : grid0.Coords) (h0 : 0 < pt i) (h1 : pt i < 21) : Runs c i (Inv c XA (pt i)) (Inv c XA (pt i + 1)) := by
  obtain ⟨e1, e2⟩ := gst_B ⟨pt i, by omega⟩ h0 h1
  refine Runs.of_frame c ?_ fun f => runB c XA i (sl (pt i)) (bk (pt i)) (bk (pt i + 3)) (qs (sl (pt i))) h0 h1 (sl_val _) (bk_val (by omega))
    (bk_val (by omega)) f (aMn c XA (pt i - 1)) (aMx c XA (pt i - 1))
  refine (split1 c XA h0 (by omega)).trans ?_
  rw [e1, e2, bigSep_congr (Ψ := fun k => cgrp c XA k (cst (pt i + 1) k)) fun k _ => by rw [cst_keep ⟨pt i, by omega⟩ h1 k], grp_bufFl, grp_bufFl]
  iintro ⟨⟨⟨%f, Hf⟩, Hx⟩, HC, HA, HB, Hk⟩
  ihave Hx := xRest_swap c XA (qs (sl (pt i))) (bk_ne (n := pt i) (m := pt i + 3) (by omega) (by omega) (by omega)) $$ Hx
  icases Hx with ⟨Hx, Hb⟩
  iexists f
  isplitr [HC Hk Hb]
  · isplitl [Hf]; · iexact Hf
    isplitl [Hx]; · iexact Hx
    isplitl [HA]; · iexact HA
    iexact HB
  iintro ⟨Hf, Hx, HA, HB⟩
  iapply Hk
  isplitl [Hf Hx Hb]
  · isplitl [Hf]; · iexact Hf
    iapply Hb; iexact Hx
  isplitl [HC]; · iexact HC
  isplitl [HA]; · iexact HA
  iexact HB

theorem stepC (i : grid0.Coords) (h0 : 21 ≤ pt i) (h1 : pt i < 24) : Runs c i (Inv c XA (pt i)) (Inv c XA (pt i + 1)) := by
  obtain ⟨e1, e2⟩ := gst_C ⟨pt i, by omega⟩ h0 h1
  obtain ⟨d1, d2, d3⟩ := cst_C ⟨pt i, by omega⟩ h0 h1
  have e3 : ck ((bk (pt i + 3)).val - 24) = ck (pt i - 21) := by
    rw [← bk_val (by omega : pt i + 3 < 32), show pt i + 3 - 24 = pt i - 21 by omega]
  have e4 : bk (21 + (sl (pt i)).val) = bk (pt i) := by
    rw [show 21 + (sl (pt i)).val = pt i by rw [← sl_val]; omega]
  refine Runs.of_frame c ?_ fun x : _ × _ => runC c XA i (sl (pt i)) (ck (pt i - 21)) (bk (pt i)) (bk (pt i + 3)) (qs (sl (pt i))) h0 h1 (sl_val _)
    (by rw [← ck_val (by omega)]; omega) (bk_val (by omega)) (bk_val (by omega)) x.1 x.2 (aMn c XA (pt i - 1)) (aMx c XA (pt i - 1))
  refine (split1 c XA (by omega) (by omega)).trans ?_
  rw [e1, e2, grp_bufFl, grp_cacheFl, e3, e4]
  iintro ⟨⟨⟨%f, Hf⟩, Hx⟩, HC, HA, HB, Hk⟩
  ihave Hx := xRest_swap c XA (qs (sl (pt i))) (bk_ne (n := pt i) (m := pt i + 3) (by omega) (by omega) (by omega)) $$ Hx
  icases Hx with ⟨Hx, Hb⟩
  ihave HC := focus (g := fun k => cgrp c XA k (cst (pt i + 1) k)) (ck (pt i - 21)) (fun k hk => by rw [d3 k hk]) $$ HC
  rw [d1, d2, cgrp_any, cgrp_fly]
  icases HC with ⟨⟨%fc, Hc⟩, HC⟩
  iexists (f, fc)
  isplitr [HC Hk Hb]
  · isplitl [Hf]; · iexact Hf
    isplitl [Hx]; · iexact Hx
    isplitl [Hc]; · iexact Hc
    isplitl [HA]; · iexact HA
    iexact HB
  iintro ⟨Hf, Hx, Hh, HA, HB⟩
  iapply Hk
  isplitl [Hf Hx Hb Hh]
  · isplitl [Hf]; · iexact Hf
    isplitl [Hx Hb]; · iapply Hb; iexact Hx
    iexact Hh
  isplitl [HC]; · iapply HC; iempintro
  isplitl [HA]; · iexact HA
  iexact HB

theorem stepD (i : grid0.Coords) (h0 : 24 ≤ pt i) (h1 : pt i < 29) : Runs c i (Inv c XA (pt i)) (Inv c XA (pt i + 1)) := by
  obtain ⟨e1, e2⟩ := gst_D ⟨pt i, by omega⟩ h0 h1
  obtain ⟨d1, d2, d3, d4, d5, d6⟩ := cst_D ⟨pt i, by omega⟩ h0 h1
  have e3 : ck ((bk (pt i + 3)).val - 24) = ck (pt i - 21) := by
    rw [← bk_val (by omega : pt i + 3 < 32), show pt i + 3 - 24 = pt i - 21 by omega]
  have e4 : ck ((bk (pt i)).val - 24) = ck (pt i - 24) := by rw [← bk_val (by omega : pt i < 32)]
  have e5 : bk (24 + (ck (pt i - 24)).val) = bk (pt i) := by rw [← ck_val (by omega)]; congr 1; omega
  refine Runs.of_frame c ?_ fun x : _ × _ => runD c XA i (sl (pt i)) (ck (pt i - 24)) (ck (pt i - 21)) (bk (pt i)) (bk (pt i + 3)) (qs (sl (pt i))) h0 h1
    (sl_val _) (by rw [← ck_val (by omega)]; omega) (by rw [← ck_val (by omega)]; omega) (bk_val (by omega)) (bk_val (by omega))
    x.1 x.2 (aMn c XA (pt i - 1)) (aMx c XA (pt i - 1))
  refine (split1 c XA (by omega) (by omega)).trans ?_
  rw [e1, e2, grp_cacheFl, grp_cacheFl, e3, e4]
  iintro ⟨⟨⟨%f, Hf⟩, Hx, Hh⟩, HC, HA, HB, Hk⟩
  ihave Hx := xRest_swap c XA (qs (sl (pt i))) (bk_ne (n := pt i) (m := pt i + 3) (by omega) (by omega) (by omega)) $$ Hx
  icases Hx with ⟨Hx, Hb⟩
  ihave HC := focus₂ (g := fun k => cgrp c XA k (cst (pt i + 1) k)) (ck (pt i - 24)) (ck (pt i - 21)) d5 (fun k hk hk' => by rw [d6 k hk hk']) $$ HC
  rw [d1, d2, d3, d4, cgrp_any, cgrp_fly, cgrp_fly, cgrp_has, e5]
  icases HC with ⟨-, ⟨%fc, Hc⟩, HC⟩
  iexists (f, fc)
  isplitr [HC Hk Hb Hh]
  · isplitl [Hf]; · iexact Hf
    isplitl [Hx]; · iexact Hx
    isplitl [Hc]; · iexact Hc
    isplitl [HA]; · iexact HA
    iexact HB
  iintro ⟨Hf, Hx, Hn, HA, HB⟩
  iapply Hk
  isplitl [Hf Hx Hb Hh]
  · isplitl [Hf]; · iexact Hf
    isplitl [Hx Hb]; · iapply Hb; iexact Hx
    iexact Hh
  isplitl [HC Hn]
  · iapply HC $$ Hn; iempintro
  isplitl [HA]; · iexact HA
  iexact HB

theorem stepE (i : grid0.Coords) (h0 : 29 ≤ pt i) (h1 : pt i < 32) : Runs c i (Inv c XA (pt i)) (Inv c XA (pt i + 1)) := by
  obtain ⟨e1, e2⟩ := gst_E ⟨pt i, by omega⟩ h0 h1
  obtain ⟨d1, d2, d3⟩ := cst_E ⟨pt i, by omega⟩ h0 h1
  have e4 : ck ((bk (pt i)).val - 24) = ck (pt i - 24) := by rw [← bk_val (by omega : pt i < 32)]
  have e5 : bk (24 + (ck (pt i - 24)).val) = bk (pt i) := by rw [← ck_val (by omega)]; congr 1; omega
  refine Runs.of_frame c ?_ fun f => runE c XA i (sl (pt i)) (ck (pt i - 24)) (bk (pt i)) (qs (sl (pt i))) h0 h1
    (sl_val _) (by rw [← ck_val (by omega)]; omega) (bk_val (by omega)) f (aMn c XA (pt i - 1)) (aMx c XA (pt i - 1))
  refine (split1 c XA (by omega) (by omega)).trans ?_
  rw [e1, e2, grp_cacheFl, grp_idle, e4]
  iintro ⟨⟨⟨%f, Hf⟩, Hx, Hh⟩, HC, HA, HB, Hk⟩
  ihave HC := focus (g := fun k => cgrp c XA k (cst (pt i + 1) k)) (ck (pt i - 24)) (fun k hk => by rw [d3 k hk]) $$ HC
  rw [d1, d2, cgrp_fly, cgrp_has, e5]
  icases HC with ⟨-, HC⟩
  iexists f
  isplitr [HC Hk Hx Hh]
  · isplitl [Hf]; · iexact Hf
    isplitl [HA]; · iexact HA
    iexact HB
  iintro ⟨Hc, Hb, Hn, HA, HB⟩
  iapply Hk
  isplitl [Hc Hx Hb Hh]
  · isplitl [Hc]; · iexact Hc
    isplitl [Hx Hb]
    · iapply xAll_join c XA _ (bk (pt i)); isplitl [Hb]; · iexact Hb
      iexact Hx
    iexact Hh
  isplitl [HC Hn]; · iapply HC; iexact Hn
  isplitl [HA]; · iexact HA
  iexact HB

/-! ## The points of the second pass -/

theorem stepF (i : grid0.Coords) (h : pt i = 32) :
    RunsO c i (Inv c XA (pt i)) (Inv c XA (pt i + 1)) (k0_pay19 (xv c XA (bk (tgt (pt i)))) (scaleV c XA) (zpV c XA)) := by
  have h0 : 32 ≤ pt i := by omega
  have h1 : pt i < 35 := by omega
  obtain ⟨e1, e2⟩ := gst_G ⟨pt i, by omega⟩ h0 h1
  obtain ⟨t1, t2⟩ := ((tgt_res ⟨pt i, by omega⟩ h0).2).1 h1
  replace t1 : 21 ≤ tgt (pt i) := t1
  replace t2 : tgt (pt i) < 24 := t2
  have hn : bk (tgt (pt i) - 3) ≠ bk (tgt (pt i)) := bk_ne (by omega) (by omega) (by omega)
  refine RunsO.of_frame c (h := fun f => (bslot (sl (tgt (pt i)))).view.read (Elt F) f = xblkV c XA (bk (tgt (pt i)))) ?_ fun f hf =>
    runF c XA i (sl (tgt (pt i))) (bk (tgt (pt i))) (bk (tgt (pt i) - 3)) (qs (sl (tgt (pt i)))) h t1 t2 (bk_val (by omega)) (sl_val _)
      (by rw [← bk_val (by omega)]; omega) (aMn c XA 31) (aMx c XA 31) f hf
  refine (split2 c XA h0 (by omega) t2).trans ?_
  rw [e1, e2, grp_idle, grp_bufFl, scalP_early c XA (by omega : pt i ≤ 32)]; unfold bHas
  iintro ⟨⟨Hc, Hx, ⟨%f, %hf, Hb⟩⟩, HA, HB, HS, Hk⟩
  ihave Hx := xAll_split c XA (qs (sl (tgt (pt i)))) (bk (tgt (pt i) - 3)) $$ Hx
  icases Hx with ⟨Hx, Hr⟩
  iexists f
  isplitr; · ipureintro; exact hf
  isplitr [Hk Hr]
  · isplitl [Hc]; · iexact Hc
    isplitl [Hb]; · iexact Hb
    isplitl [Hx]; · iexact Hx
    isplitl [HA]; · iexact HA
    isplitl [HB]; · iexact HB
    iexact HS
  iintro ⟨Hf, HA, HB, HS⟩
  iapply Hk
  isplitl [Hf Hr]; · isplitl [Hf]; · iexact Hf
                     iexact Hr
  isplitl [HA]; · iexact HA
  isplitl [HB]; · iexact HB
  iexact HS

theorem stepG (i : grid0.Coords) (h33 : 33 ≤ pt i) (h1 : pt i < 35) :
    RunsO c i (Inv c XA (pt i)) (Inv c XA (pt i + 1)) (k0_pay19 (xv c XA (bk (tgt (pt i)))) (scaleV c XA) (zpV c XA)) := by
  have h0 : 32 ≤ pt i := by omega
  obtain ⟨e1, e2⟩ := gst_G ⟨pt i, by omega⟩ h0 h1
  obtain ⟨t1, t2⟩ := ((tgt_res ⟨pt i, by omega⟩ h0).2).1 h1
  replace t1 : 21 ≤ tgt (pt i) := t1
  replace t2 : tgt (pt i) < 24 := t2
  refine RunsO.of_frame c (h := fun f => (bslot (sl (tgt (pt i)))).view.read (Elt F) f = xblkV c XA (bk (tgt (pt i)))) ?_ fun f hf =>
    runG c XA i (sl (tgt (pt i))) (bk (tgt (pt i))) (bk (tgt (pt i) - 3)) (qs (sl (tgt (pt i)))) h33 t1 t2 (bk_val (by omega)) (sl_val _)
      (by rw [← bk_val (by omega)]; omega) (scaleV c XA) (zpV c XA) f hf
  refine (split2 c XA h0 (by omega) t2).trans ?_
  rw [e1, e2, grp_idle, grp_bufFl, scalP_late c XA h33]; unfold bHas
  iintro ⟨⟨Hc, Hx, ⟨%f, %hf, Hb⟩⟩, HA, HB, HS, Hk⟩
  ihave Hx := xAll_split c XA (qs (sl (tgt (pt i)))) (bk (tgt (pt i) - 3)) $$ Hx
  icases Hx with ⟨Hx, Hr⟩
  iexists f
  isplitr; · ipureintro; exact hf
  isplitr [Hk Hr HA HB]
  · isplitl [Hc]; · iexact Hc
    isplitl [Hb]; · iexact Hb
    isplitl [Hx]; · iexact Hx
    iexact HS
  iintro ⟨Hf, HS⟩
  iapply Hk
  isplitl [Hf Hr]; · isplitl [Hf]; · iexact Hf
                     iexact Hr
  isplitl [HA]; · iexact HA
  isplitl [HB]; · iexact HB
  iexact HS

theorem stepH (i : grid0.Coords) (h33 : 33 ≤ pt i) (h64 : pt i < 64) (t1 : 3 ≤ tgt (pt i)) (t2 : tgt (pt i) < 21) :
    RunsO c i (Inv c XA (pt i)) (Inv c XA (pt i + 1)) (k0_pay19 (xv c XA (bk (tgt (pt i)))) (scaleV c XA) (zpV c XA)) := by
  have h0 : 32 ≤ pt i := by omega
  obtain ⟨e1, e2⟩ := gst_H ⟨pt i, h64⟩ h0 t1 t2
  refine RunsO.of_frame c (h := fun _ => True) ?_ fun f _ =>
    runH c XA i (sl (tgt (pt i))) (bk (tgt (pt i))) (bk (tgt (pt i) - 3)) (qs (sl (tgt (pt i)))) h33 t1 t2 (bk_val (by omega)) (sl_val _)
      (by rw [← bk_val (by omega)]; omega) (scaleV c XA) (zpV c XA) f
  refine (split2 c XA h0 (by omega) (by omega)).trans ?_
  rw [e1, e2, grp_bufFl, grp_bufFl, scalP_late c XA h33]
  iintro ⟨⟨⟨%f, Hf⟩, Hx⟩, HA, HB, HS, Hk⟩
  ihave Hx := xRest_swap c XA (qs (sl (tgt (pt i)))) (bk_ne (n := tgt (pt i)) (m := tgt (pt i) - 3) (by omega) (by omega) (by omega)) $$ Hx
  icases Hx with ⟨Hx, Hr⟩
  iexists f
  isplitr; · ipureintro; trivial
  isplitr [Hk Hr HA HB]
  · isplitl [Hf]; · iexact Hf
    isplitl [Hx]; · iexact Hx
    iexact HS
  iintro ⟨Hf, Hx, HS⟩
  iapply Hk
  isplitl [Hf Hx Hr]; · isplitl [Hf]; · iexact Hf
                        iapply Hr; iexact Hx
  isplitl [HA]; · iexact HA
  isplitl [HB]; · iexact HB
  iexact HS

theorem stepI (i : grid0.Coords) (h33 : 33 ≤ pt i) (h64 : pt i < 64) (t2 : tgt (pt i) < 3) :
    RunsO c i (Inv c XA (pt i)) (Inv c XA (pt i + 1)) (k0_pay19 (xv c XA (bk (tgt (pt i)))) (scaleV c XA) (zpV c XA)) := by
  have h0 : 32 ≤ pt i := by omega
  obtain ⟨e1, e2⟩ := gst_I ⟨pt i, h64⟩ h0 t2
  refine RunsO.of_frame c (h := fun _ => True) ?_ fun f _ =>
    runI c XA i (sl (tgt (pt i))) (bk (tgt (pt i))) (qs (sl (tgt (pt i)))) h33 t2 (bk_val (by omega)) (sl_val _) (scaleV c XA) (zpV c XA) f
  refine (split2 c XA h0 (by omega) (by omega)).trans ?_
  rw [e1, e2, grp_bufFl, grp_idle, scalP_late c XA h33]
  iintro ⟨⟨⟨%f, Hf⟩, Hx⟩, HA, HB, HS, Hk⟩
  iexists f
  isplitr; · ipureintro; trivial
  isplitr [Hk Hx HA HB]
  · isplitl [Hf]; · iexact Hf
    iexact HS
  iintro ⟨Hc, Hb, Hh, HS⟩
  iapply Hk
  isplitl [Hc Hx Hb Hh]
  · isplitl [Hc]; · iexact Hc
    isplitl [Hx Hb]
    · iapply xAll_join c XA _ (bk (tgt (pt i))); isplitl [Hb]; · iexact Hb
      iexact Hx
    iexact Hh
  isplitl [HA]; · iexact HA
  isplitl [HB]; · iexact HB
  iexact HS

theorem stepJ (i : grid0.Coords) (h33 : 33 ≤ pt i) (h64 : pt i < 64) (t1 : 24 ≤ tgt (pt i)) :
    RunsO c i (Inv c XA (pt i)) (Inv c XA (pt i + 1)) (k0_pay19 (xv c XA (bk (tgt (pt i)))) (scaleV c XA) (zpV c XA)) := by
  have t2 : tgt (pt i) < 32 := (tgt_res ⟨pt i, h64⟩ (by show 32 ≤ pt i; omega)).1
  have hk : tgt (pt i) = 24 + (ck (tgt (pt i) - 24)).val := by rw [← ck_val (by omega)]; omega
  refine RunsO.of_frame c (h := fun f => (cslot (ck (tgt (pt i) - 24))).view.read (Elt F) f = xblkV c XA (bk (tgt (pt i)))) ?_ fun f hf =>
    runJ c XA i (ck (tgt (pt i) - 24)) (bk (tgt (pt i))) h33 hk (bk_val t2) (scaleV c XA) (zpV c XA) f hf
  refine (split3 c XA (ck (tgt (pt i) - 24)) h33 h64 t1).trans ?_
  rw [← hk]; unfold cHas
  iintro ⟨⟨%f, %hf, Hb⟩, HS, Hk⟩
  iexists f
  isplitr; · ipureintro; exact hf
  isplitr [Hk]
  · isplitl [Hb]; · iexact Hb
    iexact HS
  iintro ⟨Hb, HS⟩
  iapply Hk
  isplitl [Hb]
  · iexists f; isplitr; · ipureintro; exact hf
    iexact Hb
  iexact HS

/-! ## Every point -/

theorem stepFirst (i : grid0.Coords) (h : pt i < 32) : Runs c i (Inv c XA (pt i)) (Inv c XA (pt i + 1)) := by
  by_cases h0 : pt i = 0
  · rw [h0]; exact stepA c XA i h0
  by_cases h1 : pt i < 21
  · exact stepB c XA i (by omega) h1
  by_cases h2 : pt i < 24
  · exact stepC c XA i (by omega) h2
  by_cases h3 : pt i < 29
  · exact stepD c XA i (by omega) h3
  exact stepE c XA i (by omega) h

/-- A point of the second pass writes its target block, quantised. -/
theorem stepSecond (i : grid0.Coords) (h : 32 ≤ pt i) (h64 : pt i < 64) :
    RunsO c i (Inv c XA (pt i)) (Inv c XA (pt i + 1)) (k0_pay19 (xv c XA (bk (tgt (pt i)))) (scaleV c XA) (zpV c XA)) := by
  by_cases h0 : pt i = 32
  · exact stepF c XA i h0
  by_cases h1 : pt i < 35
  · exact stepG c XA i (by omega) h1
  have hr := (tgt_res ⟨pt i, h64⟩ h).2
  replace hr : pt i < 35 ↔ 21 ≤ tgt (pt i) ∧ tgt (pt i) < 24 := hr
  by_cases h2 : tgt (pt i) < 3
  · exact stepI c XA i (by omega) h64 h2
  by_cases h3 : tgt (pt i) < 21
  · exact stepH c XA i (by omega) h64 (by omega) h3
  exact stepJ c XA i (by omega) h64 (by omega)

end Steps

end Cert.KernelIdeal.Hand

end
-- ==== Proof.Ends.lean ====
/-
  Where the invariant comes from at the launch and what it gives back at the end: the input dealt into its read shares,
  the streaming buffer and the cache cut into their slots, the accumulators and the scalar memory, and all of it back.
-/
module

public import proofs.«01_k».proof.Proof.Groups
public import Idealize.ShloMosaic.Lib.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UC sig nD τ) ℕ
theorem of_eq {P Q : sProp 𝕄} (h : P = Q) : P ⊢ Q := h ▸ .rfl
theorem each {I : Type} [Fintype I] {Φ Ψ : I → sProp 𝕄} (h : ∀ i, Φ i ⊢ Ψ i) : bigSep Finset.univ Φ ⊢ bigSep Finset.univ Ψ :=
  bigSep_mono fun i _ => h i
theorem three {Φ : Fin 3 → sProp 𝕄} : bigSep Finset.univ Φ ⊢ iprop(Φ 0 ∗ Φ 1 ∗ Φ 2) := by rw [Ring.bigSep_fin3]

section Ends
variable (c : Dev nD) (XA : Buf (Elt F) (xM.view.loc (c : Thread nD τ)))

/-- The elements of slot `s` of the streaming buffer, and of the cache's slot `k`. -/
def bJ (s : Fin 3) : Finset cc0_scratch0.ty.Idx := (Rect.unit (s := S3x512x2048) (bufOff s) S1x512x2048.size (bufOff_inb s)).set
def cJ (k : Fin 8) : Finset cc0_scratch1.ty.Idx := (Rect.unit (s := S8x512x2048) (cacheOff k) S1x512x2048.size (cacheOff_inb k)).set

theorem bslot_set_eq (s : Fin 3) : (bslot s).view.set = bJ s := (View.set_reshape _ _).trans (View.set_slice_whole _ _)
theorem cslot_set_eq (k : Fin 8) : (cslot k).view.set = cJ k := (View.set_reshape _ _).trans (View.set_slice_whole _ _)

theorem bJ_disjoint : ∀ s s', s ≠ s' → Disjoint (bJ s) (bJ s') := fun s s' h =>
  Ring.lead_disjoint (s := S3x512x2048) (0 : Fin 3) 1 bufOff S1x512x2048.size bufOff_inb (by decide) rfl s s' h
theorem bJ_cover : Finset.univ.biUnion bJ = Finset.univ :=
  Ring.lead_cover (s := S3x512x2048) (0 : Fin 3) 1 bufOff S1x512x2048.size bufOff_inb (by decide) (by decide) rfl (by decide) rfl
theorem cJ_disjoint : ∀ s s', s ≠ s' → Disjoint (cJ s) (cJ s') := fun s s' h =>
  Ring.lead_disjoint (s := S8x512x2048) (0 : Fin 3) 1 cacheOff S1x512x2048.size cacheOff_inb (by decide) rfl s s' h
theorem cJ_cover : Finset.univ.biUnion cJ = Finset.univ :=
  Ring.lead_cover (s := S8x512x2048) (0 : Fin 3) 1 cacheOff S1x512x2048.size cacheOff_inb (by decide) (by decide) rfl (by decide) rfl

theorem bP_eq (s : Fin 3) (f : Buf (Elt F) ((bslot s).view.loc (c : Thread nD τ))) :
    bP c s f = (((c : Thread nD τ).loc cc0_scratch0) ↦[bJ s]{fullShare} f : sProp 𝕄) := by
  unfold bP; rw [bslot_set_eq s]; rfl
theorem cP_eq (k : Fin 8) (f : Buf (Elt F) ((cslot k).view.loc (c : Thread nD τ))) :
    cP c k f = (((c : Thread nD τ).loc cc0_scratch1) ↦[cJ k]{fullShare} f : sProp 𝕄) := by
  unfold cP; rw [cslot_set_eq k]; rfl

theorem bP_in (s : Fin 3) (f : Buf (Elt F) ((c : Thread nD τ).loc cc0_scratch0)) :
    (((c : Thread nD τ).loc cc0_scratch0) ↦[bJ s]{fullShare} f : sProp 𝕄) ⊢ iprop(∃ f, bP c s f) := by
  iintro H; iexists f; iapply of_eq (bP_eq c s f).symm; iexact H
theorem bP_out (s : Fin 3) : iprop(∃ f, bP c s f) ⊢ (iprop(∃ f, ((c : Thread nD τ).loc cc0_scratch0) ↦[bJ s]{fullShare} f) : sProp 𝕄) := by
  iintro ⟨%f, H⟩; iexists f; iapply of_eq (bP_eq c s f); iexact H

theorem buf_split : iprop(∃ f : Buf (Elt F) ((c : Thread nD τ).loc cc0_scratch0), ((c : Thread nD τ).loc cc0_scratch0) ↦{fullShare} f)
    ⊢ (bigSep Finset.univ fun s => iprop(∃ f, bP c s f) : sProp 𝕄) := by
  iintro ⟨%f, H⟩
  ihave H := (show (((c : Thread nD τ).loc cc0_scratch0) ↦{fullShare} f : sProp 𝕄) ⊢ bigSep Finset.univ fun s => ((c : Thread nD τ).loc cc0_scratch0) ↦[bJ s]{fullShare} f by
    rw [Ring.pointsTo_blocks bJ bJ_disjoint bJ_cover f]) $$ H
  iapply each fun s => bP_in c s f
  iexact H
theorem buf_join : (bigSep Finset.univ fun s => iprop(∃ f, bP c s f) : sProp 𝕄)
    ⊢ iprop(∃ f : Buf (Elt F) ((c : Thread nD τ).loc cc0_scratch0), ((c : Thread nD τ).loc cc0_scratch0) ↦{fullShare} f) := by
  refine .trans ?_ (Ring.pointsTo_blocks_join_exists bJ bJ_disjoint bJ_cover (Classical.arbitrary _))
  exact each fun s => bP_out c s
theorem cP_in (k : Fin 8) (f : Buf (Elt F) ((c : Thread nD τ).loc cc0_scratch1)) :
    (((c : Thread nD τ).loc cc0_scratch1) ↦[cJ k]{fullShare} f : sProp 𝕄) ⊢ iprop(∃ f, cP c k f) := by
  iintro H; iexists f; iapply of_eq (cP_eq c k f).symm; iexact H
theorem cP_out (k : Fin 8) : iprop(∃ f, cP c k f) ⊢ (iprop(∃ f, ((c : Thread nD τ).loc cc0_scratch1) ↦[cJ k]{fullShare} f) : sProp 𝕄) := by
  iintro ⟨%f, H⟩; iexists f; iapply of_eq (cP_eq c k f); iexact H

theorem cache_split : iprop(∃ f : Buf (Elt F) ((c : Thread nD τ).loc cc0_scratch1), ((c : Thread nD τ).loc cc0_scratch1) ↦{fullShare} f)
    ⊢ (bigSep Finset.univ fun k => iprop(∃ f, cP c k f) : sProp 𝕄) := by
  iintro ⟨%f, H⟩
  ihave H := (show (((c : Thread nD τ).loc cc0_scratch1) ↦{fullShare} f : sProp 𝕄) ⊢ bigSep Finset.univ fun k => ((c : Thread nD τ).loc cc0_scratch1) ↦[cJ k]{fullShare} f by
    rw [Ring.pointsTo_blocks cJ cJ_disjoint cJ_cover f]) $$ H
  iapply each fun k => cP_in c k f
  iexact H
theorem cache_join : (bigSep Finset.univ fun k => iprop(∃ f, cP c k f) : sProp 𝕄)
    ⊢ iprop(∃ f : Buf (Elt F) ((c : Thread nD τ).loc cc0_scratch1), ((c : Thread nD τ).loc cc0_scratch1) ↦{fullShare} f) := by
  refine .trans ?_ (Ring.pointsTo_blocks_join_exists cJ cJ_disjoint cJ_cover (Classical.arbitrary _))
  exact each fun k => cP_out c k

/-- The semaphores of the kernel's own transfers. -/
abbrev osem : Fin 3 → SemLoc sig := ![SemLoc.dma 2, SemLoc.dma 3, SemLoc.dma 4]

theorem ownSemFacts : Pipeline.OwnSemFacts spec0 osem := by decide

theorem osem_eq (s : Fin 3) : (semVal ((c : Thread nD τ), osem s) 0 : sProp 𝕄) = cellP c s := by
  fin_cases s <;> rfl

theorem mn_any : iprop(∃ f : Buf (Elt F) ((c : Thread nD τ).loc cc0_scratch2), ((c : Thread nD τ).loc cc0_scratch2) ↦{fullShare} f)
    ⊢ (iprop(∃ A, mnP c A) : sProp 𝕄) := by
  iintro ⟨%f, H⟩; iexists _; unfold mnP; iexists f; isplitr; · ipureintro; rfl
  rw [show mnM.view.set = Finset.univ from View.set_whole _]; iexact H
theorem mn_back (A : Vec F S8x2048 .f32) : mnP c A
    ⊢ (iprop(∃ f : Buf (Elt F) ((c : Thread nD τ).loc cc0_scratch2), ((c : Thread nD τ).loc cc0_scratch2) ↦{fullShare} f) : sProp 𝕄) := by
  unfold mnP; rw [show mnM.view.set = Finset.univ from View.set_whole _]; iintro ⟨%f, -, H⟩; iexists f; iexact H
theorem mx_any : iprop(∃ f : Buf (Elt F) ((c : Thread nD τ).loc cc0_scratch3), ((c : Thread nD τ).loc cc0_scratch3) ↦{fullShare} f)
    ⊢ (iprop(∃ A, mxP c A) : sProp 𝕄) := by
  iintro ⟨%f, H⟩; iexists _; unfold mxP; iexists f; isplitr; · ipureintro; rfl
  rw [show mxM.view.set = Finset.univ from View.set_whole _]; iexact H
theorem mx_back (A : Vec F S8x2048 .f32) : mxP c A
    ⊢ (iprop(∃ f : Buf (Elt F) ((c : Thread nD τ).loc cc0_scratch3), ((c : Thread nD τ).loc cc0_scratch3) ↦{fullShare} f) : sProp 𝕄) := by
  unfold mxP; rw [show mxM.view.set = Finset.univ from View.set_whole _]; iintro ⟨%f, -, H⟩; iexists f; iexact H
theorem sc_any : iprop(∃ f : Buf (Elt F) ((c : Thread nD τ).loc cc0_scratch4), ((c : Thread nD τ).loc cc0_scratch4) ↦{fullShare} f)
    ⊢ (scAnyP c : sProp 𝕄) := by
  unfold scAnyP; rw [show scM.view.set = Finset.univ from View.set_whole _]
theorem sc_back (a z : Elt F .f32) : scP c a z
    ⊢ (iprop(∃ f : Buf (Elt F) ((c : Thread nD τ).loc cc0_scratch4), ((c : Thread nD τ).loc cc0_scratch4) ↦{fullShare} f) : sProp 𝕄) := by
  unfold scP; rw [show scM.view.set = Finset.univ from View.set_whole _]; iintro ⟨%f, H⟩; iexists _; iexact H

end Ends

/-! ## The launch's ends -/

section
variable (c : Dev nD) (V : (b : Ref sig .tc) → Buf (Elt F) ((c : Thread nD τ).loc b))

theorem ends_in : Pipeline.Ends spec0 osem {main_arg0} c V ⊢ Inv c (V main_arg0) 0 := by
  unfold Pipeline.Ends Inv
  rw [Pipeline.routed_singleton, Pipeline.ownSems0_eq_of_list c osem [0, 1, 2] (by decide) (by decide), scopedRest0_eq,
    show accP c (V main_arg0) 0 = iprop((∃ A, mnP c A) ∗ ∃ B, mxP c B) from if_pos rfl, show scalP c (V main_arg0) 0 = scAnyP c from if_pos (by omega),
    bigSep_congr (Ψ := fun k => iprop(∃ f, cP c k f)) fun k _ => by rw [cst_zero k]; rfl,
    Ring.bigSep_fin3, gst_zero 0, gst_zero 1, gst_zero 2]
  show iprop(_ ∗ (semVal ((c : Thread nD τ), osem 0) 0 ∗ semVal ((c : Thread nD τ), osem 1) 0 ∗ semVal ((c : Thread nD τ), osem 2) 0) ∗ _) ⊢ _
  rw [osem_eq, osem_eq, osem_eq]
  iintro ⟨Hx, ⟨Hc0, Hc1, Hc2⟩, ⟨Hb, Hk, Hn, Hm, Hs⟩, Hr⟩
  ihave Hx := Transfers.pointsTo_toks_split fullShare 3 $$ Hx
  icases Hx with ⟨Hx, Hx'⟩
  ihave Hx' := three $$ Hx'
  icases Hx' with ⟨Hx0, Hx1, Hx2⟩
  ihave Hb := buf_split c $$ Hb
  ihave Hb := three $$ Hb
  icases Hb with ⟨Hb0, Hb1, Hb2⟩
  isplitl [Hc0 Hc1 Hc2 Hx0 Hx1 Hx2 Hb0 Hb1 Hb2]
  · isplitl [Hc0 Hx0 Hb0]
    · unfold grp xAll
      isplitl [Hc0]; · iexact Hc0
      isplitl [Hx0]; · iexact Hx0
      iexact Hb0
    isplitl [Hc1 Hx1 Hb1]
    · unfold grp xAll
      isplitl [Hc1]; · iexact Hc1
      isplitl [Hx1]; · iexact Hx1
      iexact Hb1
    unfold grp xAll
    isplitl [Hc2]; · iexact Hc2
    isplitl [Hx2]; · iexact Hx2
    iexact Hb2
  isplitl [Hk]; · iapply cache_split c; iexact Hk
  isplitl [Hn Hm]
  · isplitl [Hn]; · iapply mn_any c; iexact Hn
    iapply mx_any c; iexact Hm
  isplitl [Hs]; · iapply sc_any c; iexact Hs
  isplitl [Hx]; · unfold xAll; iexact Hx
  iexact Hr

theorem ends_out : Inv c (V main_arg0) 64 ⊢ Pipeline.Ends spec0 osem {main_arg0} c V := by
  unfold Pipeline.Ends Inv
  rw [Pipeline.routed_singleton, Pipeline.ownSems0_eq_of_list c osem [0, 1, 2] (by decide) (by decide), scopedRest0_eq,
    show accP c (V main_arg0) 64 = iprop(mnP c (aMn c (V main_arg0) 31) ∗ mxP c (aMx c (V main_arg0) 31)) from if_neg (by omega),
    show scalP c (V main_arg0) 64 = scP c (scaleV c (V main_arg0)) (zpV c (V main_arg0)) from if_neg (by omega),
    bigSep_congr (Ψ := fun k => cHas c (V main_arg0) k (bk (24 + k.val))) fun k _ => by rw [cst_last k]; rfl,
    Ring.bigSep_fin3, gst_last 0, gst_last 1, gst_last 2]
  show _ ⊢ iprop(_ ∗ (semVal ((c : Thread nD τ), osem 0) 0 ∗ semVal ((c : Thread nD τ), osem 1) 0 ∗ semVal ((c : Thread nD τ), osem 2) 0) ∗ _)
  rw [osem_eq, osem_eq, osem_eq]
  unfold grp xAll bHas
  iintro ⟨⟨⟨Hc0, Hx0, %f0, -, Hb0⟩, ⟨Hc1, Hx1, %f1, -, Hb1⟩, Hc2, Hx2, %f2, -, Hb2⟩, Hk, ⟨Hn, Hm⟩, Hs, Hx, Hr⟩
  isplitl [Hx Hx0 Hx1 Hx2]
  · iapply Transfers.pointsTo_toks_join fullShare 3
    irw [Ring.bigSep_fin3]
    isplitl [Hx]; · iexact Hx
    isplitl [Hx0]; · iexact Hx0
    isplitl [Hx1]; · iexact Hx1
    iexact Hx2
  isplitl [Hc0 Hc1 Hc2]
  · isplitl [Hc0]; · iexact Hc0
    isplitl [Hc1]; · iexact Hc1
    iexact Hc2
  isplitr [Hr]
  · isplitl [Hb0 Hb1 Hb2]
    · iapply buf_join c
      irw [Ring.bigSep_fin3]
      isplitl [Hb0]; · iexists f0; iexact Hb0
      isplitl [Hb1]; · iexists f1; iexact Hb1
      iexists f2; iexact Hb2
    isplitl [Hk]
    · iapply cache_join c
      iapply (each (Φ := fun k => cHas c (V main_arg0) k (bk (24 + k.val))) fun k => by unfold cHas; iintro ⟨%f, -, H⟩; iexists f; iexact H)
      iexact Hk
    isplitl [Hn]; · iapply mn_back c; iexact Hn
    isplitl [Hm]; · iapply mx_back c; iexact Hm
    iapply sc_back c; iexact Hs
  iexact Hr

end

end Cert.KernelIdeal.Hand

end
-- ==== Proof.Run.lean ====
/-
  The launch of the kernel: its proof data, the body's obligation at every point, and what every run ends with — the
  result's array at what its blocks' write-backs leave, the input unchanged, every semaphore counter at zero.
-/
module

public import proofs.«01_k».proof.Proof.Steps
public import proofs.«01_k».proof.Proof.Ends

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UC sig nD τ) ℕ
variable (m : (ℓ : Loc nD τ sig) → Buf (Elt F) ℓ) (ρ : Dev nD → PrngReg)

theorem pt_coords : ∀ t : Fin cfg0.N, pt (cfg0.grid.coords t) = t.val := by decide +kernel

/-- At the first pass's points nothing is stored to the result's block and nothing of it is written back; -/
theorem idle_first : ∀ t : Fin cfg0.N, t.val < 32 → cfg0.idle 0 (cfg0.grid.coords t) = true ∧ (cfg0.win 0).flush t = false := by decide +kernel
/-- at the second pass's every point stores its block. -/
theorem idle_second : ∀ t : Fin cfg0.N, 32 ≤ t.val → cfg0.idle 0 (cfg0.grid.coords t) = false := by decide +kernel

/-- The input as the launch finds it. -/
abbrev XA (c : Dev nD) : Buf (Elt F) (xM.view.loc (c : Thread nD τ)) := V m c main_arg0

/-- The block point `t` of the second pass writes. -/
def outV (c : Dev nD) (n : ℕ) : Vec F S512x2048 .f32 := k0_pay19 (xv c (XA m c) (bk (tgt n))) (scaleV c (XA m c)) (zpV c (XA m c))

/-- The proof data of the pipeline on core `c`. -/
def dats (_ : Fin 1) (c : Dev nD) : Dat τ (Elt F) Unit ℕ (Pipeline.UC sig nD τ) ℕ cfg0 c where
  A w := V m c (Pipeline.arrRef spec0 w)
  after w t := match w with
    | ⟨0, _⟩ => outV m c t.val
  Φ t := Inv c (XA m c) t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = outV m c t.val := by dsimp only [dats]

abbrev ms0_0 (t : Fin cfg0.N) : Memref sig .tc .vmem S512x2048 .f32 := win0_0.stage (cfg0.slots t 0)

/-- The body at point `t`, from the invariant and the staging buffer. -/
theorem sound_body (c : Dev nD) (t : Fin cfg0.N) :
    iprop((dats m 0 c).Φ t.castSucc ∗ (dats m 0 c).owesAt () t.castSucc ∗ (∃ d, owns (c : Thread nD τ) (ms0_0 t) fullShare ((dats m 0 c).before 0 t d)))
      ⊢ wp frame (wpE (defs₀ (F := F)) Variants.none c none) Set.univ (bodyAt0 t)
        (fun _ => iprop((dats m 0 c).Φ t.succ ∗ (dats m 0 c).owesAt () t.succ ∗ (dats m 0 c).leavesExact 0 t)) := by
  have hp := pt_coords t
  have h64 : t.val < 64 := t.isLt
  unfold Dat.owesAt Pipeline.owesWithin
  rw [show (dats m 0 c).owed t.castSucc = 0 from rfl, show (dats m 0 c).owed t.succ = 0 from rfl,
    show (dats m 0 c).Φ t.castSucc = Inv c (XA m c) (pt (cfg0.grid.coords t)) by rw [hp]; rfl,
    show (dats m 0 c).Φ t.succ = Inv c (XA m c) (pt (cfg0.grid.coords t) + 1) by rw [hp]; rfl]
  by_cases h : t.val < 32
  · rw [Dat.leavesExact_idle (dats m 0 c) 0 t (idle_first t h).1 (idle_first t h).2]
    iintro ⟨HI, ⟨%W, -, HW⟩, H0⟩
    iapply stepFirst c (XA m c) (cfg0.grid.coords t) (by omega) (ms0_0 t) _ W
    isplitl [HI]; · iexact HI
    isplitl [HW]; · iexact HW
    iintro ⟨HI, ⟨%W', HW'⟩⟩
    isplitl [HI]; · iexact HI
    isplitl [HW']
    · iexists W'; isplitr; · ipureintro; exact fun _ _ => Or.inl trivial
      iexact HW'
    iexact H0
  · rw [show (dats m 0 c).leavesExact 0 t = owns (c : Thread nD τ) (ms0_0 t) fullShare ((dats m 0 c).after 0 t) by
      unfold Dat.leavesExact; rw [idle_second t (by omega)], after0_0]
    iintro ⟨HI, ⟨%W, -, HW⟩, ⟨%d0, H0⟩⟩
    iapply stepSecond c (XA m c) (cfg0.grid.coords t) (by omega) (by omega) (ms0_0 t) _ W
    isplitl [HI]; · iexact HI
    isplitl [H0]
    · unfold owns outAnyP; icases H0 with ⟨%f, -, H0⟩; iexists f; iexact H0
    isplitl [HW]; · iexact HW
    iintro ⟨HI, HY, ⟨%W', HW'⟩⟩
    isplitl [HI]; · iexact HI
    isplitl [HW']
    · iexists W'; isplitr; · ipureintro; exact fun _ _ => Or.inl trivial
      iexact HW'
    unfold outP outV; rw [hp]; iexact HY

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hmainC (𝒱₀ : Variants) : Pipeline.HMain (Ix := Unit) (Name := ℕ) (U := Pipeline.UC sig nD τ) (Lvl := ℕ) cfgs 0 defs₀ 𝒱₀ m (main (F := F)) (V m) :=
  Pipeline.hmain_region cfgs 0 defs₀ 𝒱₀ m main fun c => (main_chain c).trans rfl

/-- What every run ends with. -/
def Post (r : PUnit × MemSt nD τ sig (Elt F)) : Prop :=
  (∀ c : Dev nD, r.2.mem ((c.tc : Thread nD τ).loc main_v0) = (dats m 0 c).arrAt 0 cfg0.N
    ∧ r.2.mem ((c.tc : Thread nD τ).loc main_arg0) = m ((c.tc : Thread nD τ).loc main_arg0)) ∧ r.2.sem = fun _ => 0

set_option backward.isDefEq.respectTransparency.types false in
theorem run_main : θ_run defs (onTc (τ := τ) (main (F := F))) (s₀ m ρ) (Post m) :=
  Pipeline.θ_run_frame_routed cfgs (dats m) (0 : Fin 1) launch0 ownSemFacts defs₀ Variants.none m ρ main
    (hbody := fun c => (body_obligation m c).loose) (hshare := fun c => (dats m 0 c).share_full fun _ => rfl)
    (howed := fun _ _ => rfl) (V := V m) (hmain := hmainC m Variants.none) (hA := A_eq m)
    (R := {main_arg0}) (hR := by decide) (Y := V m)
    (hin := fun c => ends_in c (V m c)) (hout := fun c => ends_out c (V m c)) (Q' := Post m)
    (hQ' := fun r h => ⟨fun c => ⟨(h.1 c).1 0, (h.1 c).2.1 main_arg0 (Finset.mem_singleton_self _)⟩, h.2⟩)

/-- The frame: every run ends, with the input unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (h.1 c).2, h.2⟩) (run_main m ρ)

end Cert.KernelIdeal.Hand

end
-- ==== Proof.Twin.lean ====
/-
  The kernel's frame claim. The kernel and the kernel as read at the ideal instance are the same program — no operation
  was rewritten — so that the run proved of the second, over any floating-point values, is the run of the first.
-/
module

public import proofs.«01_k».proof.Proof.Run
public import proofs.«01_k».proof.Proof.Gen.Kernel

@[expose] public section

set_option maxRecDepth 16384

noncomputable section

namespace Cert.Kernel.Hand

open Idealize.ShloMosaic Idealize.SL.Sem

attribute [local instance] Cert.Kernel.Gen.facts

variable {F : FTy → Type} [FloatOps F]

/-- The two body tables run the same body. -/
theorem defs₀_same : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ) (sig := Cert.Kernel.sig) (Λ := Cert.Kernel.Λ₀)) ?_
  funext l x
  match l, x with
  | ⟨0, _⟩, (t, s) => rfl

theorem defs_same : Cert.Kernel.defs (F := F) = Cert.KernelIdeal.defs (F := F) :=
  congrArg (Pipeline.defs (Cert.Kernel.pcfgs (F := F))) defs₀_same

/-- The frame: every run ends, with the input unchanged and every semaphore counter at zero. -/
theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0) := by
  rw [defs_same]; exact Cert.KernelIdeal.Hand.frame m ρ

end Cert.Kernel.Hand

end
-- ==== Proof.Blocks.lean ====
/-
  Where the result's blocks lie: the second pass writes at each point the block of the result that sits where the
  input's block of that point sits, and every element of the result is written.
-/
module

public import proofs.«01_k».proof.Proof.Run
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-- The window's block at a point of the second pass; -/
theorem index_tgt : ∀ t : Fin cfg0.N, 32 ≤ t.val → win0_0.index t = ![tgt t.val, 0] := by decide +kernel
/-- only those points write a block back; -/
theorem flush_second : ∀ t : Fin cfg0.N, (cfg0.win 0).flush t = true → 32 ≤ t.val := by decide +kernel
/-- and they write every block. -/
theorem covers : (cfg0.win 0).Covers := by decide +kernel

variable (c : Dev nD) (X : Buf (Elt Ideal) (xM.view.loc (c : Thread nD τ)))

/-- The input's block read at an index is the input where the result's block has that index. -/
theorem xblk_at (t : Fin cfg0.N) (h32 : 32 ≤ t.val) (y : S512x2048.Idx) :
    xblkV (F := Ideal) c X (bk (tgt t.val)) y = X (((cfg0.win 0).blk t).view.emb y) := by
  have hidx := index_tgt t h32
  have hb : (bk (tgt t.val)).val = tgt t.val := Nat.mod_eq_of_lt (tgt_res t h32).1
  unfold xblkV
  refine congrArg X (funext (Fin.forall_fin_two.mpr ⟨Fin.ext ?_, Fin.ext ?_⟩))
  · show 512 * (bk (tgt t.val)).val + 1 * (y 0).val = _
    blk_simp [hidx]
    rw [hb]
    omega
  · show 0 + 1 * (y 1).val = _
    blk_simp [hidx]

end Cert.KernelIdeal.Hand

end
-- ==== Proof.Arith.lean ====
/-
  The arithmetic of the kernel at one element, over the extended reals: its quantisation, which rounds `x * (1 / s)` and
  clips the result to `[0 - z, 255 - z]`, is the reference's, which rounds `x / s` by adding and taking away, adds the
  zero point `z`, clips to `[0, 255]` and takes `z` away again.
-/
module

public import Idealize.ShloMosaic.PureOps.Ideal
public import Idealize.ShloMosaic.Lib.IdealHost

@[expose] public section

noncomputable section

namespace Cert.Arith

open Idealize.ShloMosaic

/-- Rounding to the nearest integer, ties to even. -/
abbrev rnd : EReal → EReal := Ideal.liftRound Ideal.roundHalfEven

/-! ## The constants -/

theorem c255 : Ideal.ofBits .f32 0x437F0000#32 = ((255 : ℝ) : EReal) := by
  simp [Ideal.ofBits, Ideal.ieee, -EReal.coe_mul]; norm_num
theorem c0 : Ideal.ofBits .f32 0x00000000#32 = ((0 : ℝ) : EReal) := by
  simp [Ideal.ofBits, Ideal.ieee]
theorem cTop : Ideal.ofBits .f32 0x7F800000#32 = ⊤ := by simp [Ideal.ofBits, Ideal.ieee]
theorem cBot : Ideal.ofBits .f32 0xFF800000#32 = ⊥ := by simp [Ideal.ofBits, Ideal.ieee]
/-- The least scale is a positive real. -/
theorem cEps : ∃ e : ℝ, 0 < e ∧ Ideal.ofBits .f32 0x3727C5AC#32 = (e : EReal) := by
  refine ⟨_, ?_, by simp only [Ideal.ofBits, Ideal.ieee]; rw [if_neg (by decide), if_neg (by decide)]⟩
  rw [if_neg (by decide)]
  positivity

/-! ## One element -/

/-- Clipping before the zero point is added is clipping after it, at a real quotient and a real zero point. -/
theorem clip_eq (d z : ℝ) :
    min (((255 : ℝ) : EReal) - z) (max (((0 : ℝ) : EReal) - z) (rnd d))
      = min ((255 : ℝ) : EReal) (max ((0 : ℝ) : EReal) ((d + (rnd d - d)) + z)) - z := by
  have hr : rnd (d : EReal) = (((Ideal.roundHalfEven d : ℤ) : ℝ) : EReal) := rfl
  generalize ((Ideal.roundHalfEven d : ℤ) : ℝ) = r at hr
  have hmax : ∀ a b : ℝ, max (a : EReal) b = ((max a b : ℝ) : EReal) := fun a b => (EReal.coe_strictMono.monotone.map_max).symm
  have hmin : ∀ a b : ℝ, min (a : EReal) b = ((min a b : ℝ) : EReal) := fun a b => (EReal.coe_strictMono.monotone.map_min).symm
  simp only [hr, ← EReal.coe_sub, ← EReal.coe_add, hmax, hmin]
  rw [show d + (r - d) + z = r + z by ring, ← min_sub_sub_right, ← max_sub_sub_right, add_sub_cancel_right]

/-- The reference's scale, from the least and the greatest element (each already brought across zero). -/
def scale (lo hi : EReal) : EReal := max (Ideal.ofBits .f32 0x3727C5AC#32) (Ideal.div (hi - lo) (Ideal.ofBits .f32 0x437F0000#32))

/-- A number between 0 and 255 is real. -/
theorem real_of_clip (y : EReal) : ∃ z : ℝ, min ((255 : ℝ) : EReal) (max ((0 : ℝ) : EReal) y) = z := by
  have h1 : min ((255 : ℝ) : EReal) (max ((0 : ℝ) : EReal) y) ≤ ((255 : ℝ) : EReal) := min_le_left _ _
  have h0 : ((0 : ℝ) : EReal) ≤ min ((255 : ℝ) : EReal) (max ((0 : ℝ) : EReal) y) :=
    le_min (EReal.coe_le_coe_iff.mpr (by norm_num)) (le_max_left _ _)
  generalize min ((255 : ℝ) : EReal) (max ((0 : ℝ) : EReal) y) = w at h0 h1
  induction w with
  | bot => exact absurd h0 (by simp)
  | top => exact absurd h1 (by simp)
  | coe r => exact ⟨r, rfl⟩

/-- The quotient of an element by the scale is real, and is the product with the scale's reciprocal: an infinite element
    makes the scale infinite, and then every quotient is zero. -/
theorem quot (lo hi x : EReal) (hlo : lo ≤ 0) (hhi : 0 ≤ hi) (h1 : lo ≤ x) (h2 : x ≤ hi) :
    ∃ d : ℝ, Ideal.div x (scale lo hi) = d ∧ x * Ideal.div 1 (scale lo hi) = d := by
  obtain ⟨e, he, hE⟩ := cEps
  have hpos : 0 < scale lo hi := lt_of_lt_of_le (by rw [hE]; exact EReal.coe_pos.mpr he) (le_max_left _ _)
  have hdiv : ∀ y, Ideal.div y (scale lo hi) = y * (scale lo hi)⁻¹ := fun y => if_neg hpos.ne'
  rw [hdiv, hdiv, one_mul]
  suffices h : ∃ d : ℝ, x * (scale lo hi)⁻¹ = d from h.imp fun _ h => ⟨h, h⟩
  by_cases hs : scale lo hi = ⊤
  · exact ⟨0, by rw [hs]; simp⟩
  have hw : hi - lo ≠ ⊤ := fun h => hs <| by
    unfold scale Ideal.div
    rw [h, c255, if_neg (by norm_num), ← EReal.coe_inv, EReal.top_mul_coe_of_pos (by norm_num), max_eq_right le_top]
  have hx : x ≠ ⊤ ∧ x ≠ ⊥ := by
    constructor <;> rintro rfl <;> apply hw
    · rw [top_le_iff.mp h2]; exact EReal.top_sub (fun h => by simp [h] at hlo)
    · rw [le_bot_iff.mp h1]; exact EReal.sub_bot (fun h => by simp [h] at hhi)
  have hb : scale lo hi ≠ ⊥ := fun h => by simp [h] at hpos
  refine ⟨x.toReal * (scale lo hi).toReal⁻¹, ?_⟩
  rw [EReal.coe_mul, EReal.coe_inv, EReal.coe_toReal hx.1 hx.2, EReal.coe_toReal hs hb]

/-- One element of the two programs' result: `x` between `lo` and `hi`, the scale theirs, the zero point a clipped number. -/
theorem element (lo hi x y : EReal) (hlo : lo ≤ 0) (hhi : 0 ≤ hi) (h1 : lo ≤ x) (h2 : x ≤ hi) :
    let c255 := Ideal.ofBits .f32 0x437F0000#32
    let c0 := Ideal.ofBits .f32 0x00000000#32
    let z := min c255 (max c0 y)
    let s := scale lo hi
    min (c255 - z) (max (c0 - z) (rnd (x * Ideal.div (Ideal.ofBits .f32 0x3F800000#32) s))) * s
      = (min c255 (max c0 ((Ideal.div x s + (rnd (Ideal.div x s) - Ideal.div x s)) + z)) - z) * s := by
  intro k255 k0 z s
  obtain ⟨d, hd, hd'⟩ := quot lo hi x hlo hhi h1 h2
  obtain ⟨r, hr⟩ := real_of_clip y
  have hz : z = r := by simp only [z, k255, k0, c255, c0]; exact hr
  rw [hz, Ideal.ofBits_one_f32]
  simp only [s, hd, hd', k255, k0, c255, c0]
  rw [clip_eq]

end Cert.Arith

end
-- ==== Proof.Extremes.lean ====
/-
  The least and the greatest element of the input: what the kernel's two accumulators come to after the first pass, and
  what the reference's two reductions compute, are the same numbers. Each is known by the bounds it has.
-/
module

public import proofs.«01_k».proof.Proof.Groups
public import proofs.«01_k».proof.Proof.Arith
public import proofs.«01_k».proof.Proof.Gen.ReferenceIdeal.Run
public import Idealize.ShloMosaic.PureOps.Reduce
public import Idealize.ShloMosaic.PureOps.Ideal.Laws

@[expose] public section

set_option maxRecDepth 16384

noncomputable section

namespace Cert.KernelIdeal.Hand

open Cert.KernelIdeal Cert.KernelIdeal.Gen
open Idealize.ShloMosaic Idealize.ShloMosaic.TcCoe Idealize.SL.Sem

/-! ## Reductions by the bounds they have -/

/-- `b` is below every entry of `v`; -/
def Below {ι : Type} (b : EReal) (v : ι → EReal) : Prop := ∀ j, b ≤ v j
/-- `b` is above every entry of `v`. -/
def Above {ι : Type} (b : EReal) (v : ι → EReal) : Prop := ∀ j, v j ≤ b

section Bounds
variable {s t : Shape} {axes : List (Fin s.rank)} (b : EReal)

/-- A bound of every entry of a minimum along some axes is a bound of every entry of the source. -/
theorem below_reduction (v : FVec Ideal s .f32) (h : s.Reduces axes t) (hφ : FKind.Formats .f32)
    (hacc : 0x7F800000#32 = FKind.minimumf.neutral .f32 hφ) :
    Below b (multiReduction .minimumf axes t v 0x7F800000#32 h hφ hacc) ↔ Below b v := by
  have e : ∀ j, b ≤ multiReduction .minimumf axes t v 0x7F800000#32 h hφ hacc j ↔ ∀ i, h.drop i = j → b ≤ v i := fun j => by
    rw [multiReduction_minimumf_eq_fold]
    refine (Finset.le_fold_min b).trans ?_
    rw [show (FloatOps.ofBits .f32 0x7F800000#32 : Ideal .f32) = (⊤ : EReal) from Arith.cTop]
    simp
  exact ⟨fun H i => (e _).mp (H _) i rfl, fun H j => (e j).mpr fun i _ => H i⟩

/-- The same for a maximum. -/
theorem above_reduction (v : FVec Ideal s .f32) (h : s.Reduces axes t) (hφ : FKind.Formats .f32)
    (hacc : 0xFF800000#32 = FKind.maximumf.neutral .f32 hφ) :
    Above b (multiReduction .maximumf axes t v 0xFF800000#32 h hφ hacc) ↔ Above b v := by
  have e : ∀ j, multiReduction .maximumf axes t v 0xFF800000#32 h hφ hacc j ≤ b ↔ ∀ i, h.drop i = j → v i ≤ b := fun j => by
    rw [multiReduction_maximumf_eq_fold]
    refine (Finset.fold_max_le b).trans ?_
    rw [show (FloatOps.ofBits .f32 0xFF800000#32 : Ideal .f32) = (⊥ : EReal) from Arith.cBot]
    simp
  exact ⟨fun H i => (e _).mp (H _) i rfl, fun H j => (e j).mpr fun i _ => H i⟩

/-- The same for the reference's minimum from an initial value of plus infinity, -/
theorem below_reduce {u : Shape} (v : FVec Ideal s .f32) (init : FVec Ideal u .f32) (hi : ∀ k, init k = (⊤ : EReal)) (h : s.ReducesTo axes t) (hu : 0 < u.numel) :
    Below b (Host.reduce (FloatOps.minimumf (F := Ideal) (φ := .f32)) v init h hu) ↔ Below b v := by
  have e : ∀ j, b ≤ Host.reduce (FloatOps.minimumf (F := Ideal) (φ := .f32)) v init h hu j ↔ ∀ i, h.drop i = j → b ≤ v i := fun j => by
    rw [Host.reduce_eq_fold]
    refine (Finset.le_fold_min b).trans ?_
    rw [hi]
    simp
  exact ⟨fun H i => (e _).mp (H _) i rfl, fun H j => (e j).mpr fun i _ => H i⟩

/-- and for its maximum from minus infinity. -/
theorem above_reduce {u : Shape} (v : FVec Ideal s .f32) (init : FVec Ideal u .f32) (hi : ∀ k, init k = (⊥ : EReal)) (h : s.ReducesTo axes t) (hu : 0 < u.numel) :
    Above b (Host.reduce (FloatOps.maximumf (F := Ideal) (φ := .f32)) v init h hu) ↔ Above b v := by
  have e : ∀ j, Host.reduce (FloatOps.maximumf (F := Ideal) (φ := .f32)) v init h hu j ≤ b ↔ ∀ i, h.drop i = j → v i ≤ b := fun j => by
    rw [Host.reduce_eq_fold]
    refine (Finset.fold_max_le b).trans ?_
    rw [hi]
    simp
  exact ⟨fun H i => (e _).mp (H _) i rfl, fun H j => (e j).mpr fun i _ => H i⟩

/-- Where there is one index only, a bound of one entry is a bound of all. -/
theorem le_iff_below [Subsingleton t.Idx] (v : t.Idx → EReal) (j : t.Idx) : b ≤ v j ↔ Below b v :=
  ⟨fun H i => Subsingleton.elim j i ▸ H, fun H => H j⟩
theorem le_iff_above [Subsingleton t.Idx] (v : t.Idx → EReal) (j : t.Idx) : v j ≤ b ↔ Above b v :=
  ⟨fun H i => Subsingleton.elim j i ▸ H, fun H => H j⟩

/-- A change of shape keeps the entries, so it keeps the bounds. -/
theorem below_shapeCast (v : s.Idx → EReal) (h : s.ShapeCasts t) : Below b (shapeCast t v h) ↔ Below b v :=
  ⟨fun H i => by simpa [shapeCast] using H ((Shape.reshapeEquiv h).symm i), fun H j => H _⟩
theorem above_shapeCast (v : s.Idx → EReal) (h : s.ShapeCasts t) : Above b (shapeCast t v h) ↔ Above b v :=
  ⟨fun H i => by simpa [shapeCast] using H ((Shape.reshapeEquiv h).symm i), fun H j => H _⟩

/-- The bounds of one entry of an elementwise minimum or maximum, -/
theorem le_min_at (u v : FVec Ideal s .f32) (j : s.Idx) : b ≤ minimumf u v j ↔ b ≤ u j ∧ b ≤ v j := le_min_iff
theorem max_at_le (u v : FVec Ideal s .f32) (j : s.Idx) : maximumf u v j ≤ b ↔ u j ≤ b ∧ v j ≤ b := max_le_iff
/-- The bounds of an elementwise minimum or maximum are those of both arrays. -/
theorem below_min (u v : FVec Ideal s .f32) : Below b (minimumf u v) ↔ Below b u ∧ Below b v :=
  (forall_congr' fun _ => le_min_iff).trans forall_and
theorem above_max (u v : FVec Ideal s .f32) : Above b (maximumf u v) ↔ Above b u ∧ Above b v :=
  (forall_congr' fun _ => max_le_iff).trans forall_and

end Bounds

/-! ## The kernel's extremes -/

section Kernel
variable (c : Dev nD) (X : Buf (Elt Ideal) (xM.view.loc (c : Thread nD τ))) (b : EReal)

/-- Every element of the input lies in one of the 32 blocks. -/
theorem in_block (i : S16384x2048.Idx) : ∃ k : Fin 32, ∃ j, (xblk k).view.emb j = i := by
  have h0 : (i 0).val < 16384 := (i 0).isLt
  have h1 : (i 1).val < 2048 := (i 1).isLt
  let k : Fin 32 := ⟨(i 0).val / 512, by omega⟩
  have hi : i ∈ (xblk k).view.set := by
    rw [xblk_set]
    refine Rect.mem_set_unit.mpr (Fin.forall_fin_two.mpr ⟨?_, ?_⟩)
    · show 512 * ((i 0).val / 512) ≤ (i 0).val ∧ (i 0).val < 512 * ((i 0).val / 512) + 512
      omega
    · show 0 ≤ (i 1).val ∧ (i 1).val < 0 + 2048
      omega
  obtain ⟨j, -, e⟩ := Finset.mem_map.mp hi
  exact ⟨k, j, e⟩

/-- So the bounds of the input are those of all the blocks. -/
theorem below_blocks : (∀ k : Fin 32, Below b (xblkV (F := Ideal) c X k)) ↔ Below (ι := S16384x2048.Idx) b X :=
  ⟨fun H i => by obtain ⟨k, j, rfl⟩ := in_block i; exact H k j, fun H k j => H _⟩
theorem above_blocks : (∀ k : Fin 32, Above b (xblkV (F := Ideal) c X k)) ↔ Above (ι := S16384x2048.Idx) b X :=
  ⟨fun H i => by obtain ⟨k, j, rfl⟩ := in_block i; exact H k j, fun H k j => H _⟩

/-- The bounds of a block's reductions are the block's. -/
theorem below_pay9 (k : Fin 32) : Below b (k0_pay9 (xv (F := Ideal) c X k)) ↔ Below b (xblkV (F := Ideal) c X k) := by
  unfold k0_pay9 k0_pay8 xv
  refine (below_reduction b _ _ _ _).trans ?_
  rw [below_shapeCast, below_shapeCast, below_shapeCast]
theorem above_pay10 (k : Fin 32) : Above b (k0_pay10 (xv (F := Ideal) c X k)) ↔ Above b (xblkV (F := Ideal) c X k) := by
  unfold k0_pay10 k0_pay8 xv
  refine (above_reduction b _ _ _ _).trans ?_
  rw [above_shapeCast, above_shapeCast, above_shapeCast]

/-- What holds of the blocks up to `n` and of block `n + 1` holds of those up to `n + 1`. -/
theorem upto_succ (P : ℕ → Prop) (n : ℕ) : ((∀ k ≤ n, P k) ∧ P (n + 1)) ↔ ∀ k ≤ n + 1, P k :=
  ⟨fun H k hk => (Nat.le_succ_iff.mp hk).elim (H.1 k) (fun e => e ▸ H.2), fun H => ⟨fun k hk => H k (by omega), H _ le_rfl⟩⟩

/-- The bounds of the first accumulator after block `n`: those of the blocks so far. -/
theorem below_aMn (n : ℕ) : Below b (aMn (F := Ideal) c X n) ↔ ∀ k ≤ n, Below b (xblkV (F := Ideal) c X (bk k)) := by
  induction n with
  | zero => unfold aMn k0_pay11; rw [below_shapeCast, below_pay9]; simp
  | succ n ih =>
    unfold aMn k0_pay13
    rw [below_shapeCast, below_min, ih, below_pay9]
    exact upto_succ (fun k => Below b (xblkV (F := Ideal) c X (bk k))) n

/-- The bounds of the second accumulator. -/
theorem above_aMx (n : ℕ) : Above b (aMx (F := Ideal) c X n) ↔ ∀ k ≤ n, Above b (xblkV (F := Ideal) c X (bk k)) := by
  induction n with
  | zero => unfold aMx k0_pay12; rw [above_shapeCast, above_pay10]; simp
  | succ n ih =>
    unfold aMx k0_pay14
    rw [above_shapeCast, above_max, ih, above_pay10]
    exact upto_succ (fun k => Above b (xblkV (F := Ideal) c X (bk k))) n

/-- The 32 blocks by number are all the blocks. -/
theorem forall_bk (P : Fin 32 → Prop) : (∀ k ≤ 31, P (bk k)) ↔ ∀ k, P k :=
  ⟨fun H k => by have := H k.val (by omega); rwa [show bk k.val = k from Fin.ofNat_val_eq_self k] at this, fun H k _ => H _⟩

/-- After the first pass the accumulators' bounds are the input's. -/
theorem below_first : Below b (aMn (F := Ideal) c X 31) ↔ Below (ι := S16384x2048.Idx) b X := by
  rw [below_aMn, forall_bk fun k => Below b (xblkV (F := Ideal) c X k), below_blocks]
theorem above_first : Above b (aMx (F := Ideal) c X 31) ↔ Above (ι := S16384x2048.Idx) b X := by
  rw [above_aMx, forall_bk fun k => Above b (xblkV (F := Ideal) c X k), above_blocks]

end Kernel

/-! ## Against the reference's -/

section Match

/-- The reference's least element of the input, brought across zero; -/
def refLo (X : FVec Ideal S16384x2048 .f32) : FVec Ideal ReferenceIdeal.S_ .f32 :=
  minimumf (Host.reduce FloatOps.minimumf X (constant ReferenceIdeal.S_ .f32 0x7F800000#32) ReferenceIdeal.Gen.reducesTo_S16384x2048_S_d0_1 ReferenceIdeal.Gen.h_S_) (constant ReferenceIdeal.S_ .f32 0x00000000#32)
/-- and its greatest. -/
def refHi (X : FVec Ideal S16384x2048 .f32) : FVec Ideal ReferenceIdeal.S_ .f32 :=
  maximumf (Host.reduce FloatOps.maximumf X (constant ReferenceIdeal.S_ .f32 0xFF800000#32) ReferenceIdeal.Gen.reducesTo_S16384x2048_S_d0_1 ReferenceIdeal.Gen.h_S_) (constant ReferenceIdeal.S_ .f32 0x00000000#32)

/-- The number zero of the two programs. -/
abbrev zero : EReal := Ideal.ofBits .f32 0x00000000#32

instance : Subsingleton ReferenceIdeal.S_.Idx := ⟨fun _ _ => funext fun a => a.elim0⟩

theorem le_refLo (X : FVec Ideal S16384x2048 .f32) (j : ReferenceIdeal.S_.Idx) (b : EReal) : b ≤ refLo X j ↔ Below b X ∧ b ≤ zero := by
  unfold refLo
  rw [le_min_at]
  exact (and_congr_left' ((le_iff_below b _ j).trans (below_reduce b X _ (fun _ => Arith.cTop) _ _)))
theorem refHi_le (X : FVec Ideal S16384x2048 .f32) (j : ReferenceIdeal.S_.Idx) (b : EReal) : refHi X j ≤ b ↔ Above b X ∧ zero ≤ b := by
  unfold refHi
  rw [max_at_le]
  exact (and_congr_left' ((le_iff_above b _ j).trans (above_reduce b X _ (fun _ => Arith.cBot) _ _)))

/-- The one entry of an array of one entry, as the kernel takes it out. -/
def entry (v : FVec Ideal S1 .f32) : EReal := extractAt ![0, 0, 0] (shapeCast S1x1x1 v shapeCasts_S1_S1x1x1) inpos_S1x1x1_p0_0_0

theorem entry_at : ∃ j, ∀ v, entry v = v j := ⟨_, fun _ => rfl⟩
instance : Subsingleton S1.Idx := ⟨fun i j => funext fun a => Fin.ext (by
  have hi := (i a).isLt; have hj := (j a).isLt
  have ha : a = 0 := Subsingleton.elim (α := Fin 1) a 0
  subst ha
  change (i 0).val < 1 at hi; change (j 0).val < 1 at hj; omega)⟩
theorem le_entry (v : FVec Ideal S1 .f32) (b : EReal) : b ≤ entry v ↔ Below b v := by
  obtain ⟨j, hj⟩ := entry_at
  rw [hj]; exact le_iff_below b v j
theorem entry_le (v : FVec Ideal S1 .f32) (b : EReal) : entry v ≤ b ↔ Above b v := by
  obtain ⟨j, hj⟩ := entry_at
  rw [hj]; exact le_iff_above b v j

/-- The least entry of the first accumulator and the greatest of the second, as the kernel reduces them. -/
def allMin (A : Vec Ideal S8x2048 .f32) : EReal :=
  entry (multiReduction (F := Ideal) .minimumf [1, 2] S1 (shapeCast S1x8x2048 A shapeCasts_S8x2048_S1x8x2048) 0x7F800000#32 reduces_S1x8x2048_S1 (.inl rfl) rfl)
def allMax (A : Vec Ideal S8x2048 .f32) : EReal :=
  entry (multiReduction (F := Ideal) .maximumf [1, 2] S1 (shapeCast S1x8x2048 A shapeCasts_S8x2048_S1x8x2048) 0xFF800000#32 reduces_S1x8x2048_S1 (.inl rfl) rfl)

theorem le_allMin (A : Vec Ideal S8x2048 .f32) (b : EReal) : b ≤ allMin A ↔ Below b A := by
  unfold allMin; exact (le_entry _ b).trans ((below_reduction b _ _ _ _).trans (below_shapeCast b _ _))
theorem allMax_le (A : Vec Ideal S8x2048 .f32) (b : EReal) : allMax A ≤ b ↔ Above b A := by
  unfold allMax; exact (entry_le _ b).trans ((above_reduction b _ _ _ _).trans (above_shapeCast b _ _))

variable (c : Dev nD) (X : Buf (Elt Ideal) (xM.view.loc (c : Thread nD τ))) (j : ReferenceIdeal.S_.Idx)

/-- The kernel's least element, brought across zero, is the reference's; -/
theorem lo_eq : min (allMin (aMn (F := Ideal) c X 31)) zero = refLo X j :=
  eq_of_forall_le_iff fun b => by rw [le_refLo, le_min_iff, le_allMin, below_first]
/-- and so is its greatest. -/
theorem hi_eq : max (allMax (aMx (F := Ideal) c X 31)) zero = refHi X j :=
  eq_of_forall_ge_iff fun b => by rw [refHi_le, max_le_iff, allMax_le, above_first]

/-- The reference's extremes have zero and every element between them. -/
theorem refLo_le (X : FVec Ideal S16384x2048 .f32) (i : S16384x2048.Idx) : refLo X j ≤ 0 ∧ refLo X j ≤ X i := by
  have h := (le_refLo X j _).mp le_rfl
  exact ⟨h.2.trans (le_of_eq Arith.c0), h.1 i⟩
theorem le_refHi (X : FVec Ideal S16384x2048 .f32) (i : S16384x2048.Idx) : 0 ≤ refHi X j ∧ X i ≤ refHi X j := by
  have h := (refHi_le X j _).mp le_rfl
  exact ⟨(le_of_eq Arith.c0.symm).trans h.2, h.1 i⟩

end Match

end Cert.KernelIdeal.Hand

end
-- ==== Proof.Value.lean ====
/-
  The value of the result: the array the kernel's write-backs leave is the reference's, element by element.
-/
module

public import proofs.«01_k».proof.Proof.Blocks
public import proofs.«01_k».proof.Proof.Extremes

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-! ## The two numbers of the first pass -/

/-- The number 255 of the two programs. -/
abbrev qmax : EReal := Ideal.ofBits .f32 0x437F0000#32

theorem pay15_eq (A : Vec Ideal S8x2048 .f32) : (k0_pay15 A : EReal) = min (allMin A) zero := by
  unfold k0_pay15; simp only [Ideal.scalar_minimumf_def]; rfl
theorem pay16_eq (A B : Vec Ideal S8x2048 .f32) :
    (k0_pay16 A B : EReal) = max (Ideal.div (max (allMax B) zero - min (allMin A) zero) qmax) (Ideal.ofBits .f32 0x3727C5AC#32) := by
  unfold k0_pay16; rw [← pay15_eq]; simp only [Ideal.scalar_maximumf_def, Ideal.scalar_divf_def, Ideal.scalar_subf_def]; rfl
theorem pay17_eq (A B : Vec Ideal S8x2048 .f32) :
    (k0_pay17 A B : EReal) = min qmax (max zero (Arith.rnd (Ideal.div (zero - min (allMin A) zero) (k0_pay16 A B)))) := by
  unfold k0_pay17; rw [← pay15_eq]; simp only [Ideal.scalar_maximumf_def, Ideal.scalar_minimumf_def, Ideal.scalar_divf_def, Ideal.scalar_subf_def]; rfl

variable (c : Dev nD) (X : Buf (Elt Ideal) (xM.view.loc (c : Thread nD τ))) (j : ReferenceIdeal.S_.Idx)

/-- The scale is the reference's, -/
theorem scale_eq : (scaleV (F := Ideal) c X : EReal) = Arith.scale (refLo X j) (refHi X j) := by
  unfold scaleV Arith.scale
  rw [pay16_eq, lo_eq c X j, hi_eq c X j, max_comm]
/-- and so is the zero point. -/
theorem zp_eq : (zpV (F := Ideal) c X : EReal)
    = min qmax (max zero (Arith.rnd (Ideal.div (-refLo X j) (Arith.scale (refLo X j) (refHi X j))))) := by
  rw [← scale_eq c X j]
  unfold zpV
  rw [pay17_eq, lo_eq c X j, show zero - refLo X j = -refLo X j by rw [zero, Arith.c0]; simp]
  rfl

/-! ## One element -/

/-- An element of a block the kernel writes. -/
theorem pay19_at (v : Vec Ideal S512x2048 .f32) (s z : EReal) (y : S512x2048.Idx) :
    (k0_pay19 (F := Ideal) (shapeCast S1x512x2048 v (by decide)) s z y : EReal)
      = min (qmax - z) (max (zero - z) (Arith.rnd (v y * Ideal.div (Ideal.ofBits .f32 0x3F800000#32) s))) * s := by
  unfold k0_pay19
  rw [shapeCast_shapeCast]
  rfl

/-! ## The reference's result -/

section Reference
variable {s u : Shape}

/-- The reference's quantisation of an array at a scale and a zero point, in its own operations. -/
def quant (d : Fin u.rank → Fin s.rank) (h : u.BroadcastsInDim s d) (Y : FVec Ideal s .f32) (S Z : FVec Ideal u .f32) : FVec Ideal s .f32 :=
  mulf (subf (minimumf (broadcastInDim s d h (id (constant u .f32 0x437F0000#32)))
      (maximumf (broadcastInDim s d h (id (constant u .f32 0x00000000#32)))
        (addf (addf (Host.divf Y (broadcastInDim s d h S)) (subf (Host.roundeven (Host.divf Y (broadcastInDim s d h S))) (Host.divf Y (broadcastInDim s d h S))))
          (broadcastInDim s d h Z))))
    (broadcastInDim s d h Z)) (broadcastInDim s d h S)

/-- The same at one element. -/
def quantAt (x a z : EReal) : EReal :=
  (min qmax (max zero ((Ideal.div x a + (Arith.rnd (Ideal.div x a) - Ideal.div x a)) + z)) - z) * a

theorem quant_at (d : Fin u.rank → Fin s.rank) (h : u.BroadcastsInDim s d) (Y : FVec Ideal s .f32) (S Z : FVec Ideal u .f32) (i : s.Idx) :
    ∃ j, quant d h Y S Z i = quantAt (Y i) (S j) (Z j) := ⟨_, rfl⟩

/-- The scale and the zero point from the extremes, in the reference's operations. -/
def mkScale (lo hi : FVec Ideal u .f32) : FVec Ideal u .f32 :=
  maximumf (id (constant u .f32 0x3727C5AC#32)) (Host.divf (subf hi lo) (constant u .f32 0x437F0000#32))
def mkZp (lo S : FVec Ideal u .f32) : FVec Ideal u .f32 :=
  minimumf (id (constant u .f32 0x437F0000#32)) (maximumf (id (constant u .f32 0x00000000#32)) (Host.roundeven (Host.divf (Host.negf lo) S)))

theorem mkScale_at (lo hi : FVec Ideal u .f32) (j : u.Idx) : mkScale lo hi j = Arith.scale (lo j) (hi j) := rfl
theorem mkZp_at (lo S : FVec Ideal u .f32) (j : u.Idx) : mkZp lo S j = min qmax (max zero (Arith.rnd (Ideal.div (-lo j) (S j)))) := rfl

end Reference

/-- The reference's result is the quantisation of its argument at its scale and zero point. -/
theorem ref_eq (m : (ℓ : Loc ReferenceIdeal.nD ReferenceIdeal.τ ReferenceIdeal.sig) → Buf (Elt Ideal) ℓ) (c : Dev ReferenceIdeal.nD)
    (Y : FVec Ideal S16384x2048 .f32) (hY : m ((c.tc : Thread ReferenceIdeal.nD ReferenceIdeal.τ).loc ReferenceIdeal.main_arg0) = Y) :
    ReferenceIdeal.Value.res_out0 (F := Ideal) m c
      = quant ![] ReferenceIdeal.Gen.bcast_S_S16384x2048 Y (mkScale (refLo Y) (refHi Y)) (mkZp (refLo Y) (mkScale (refLo Y) (refHi Y))) := by
  unfold ReferenceIdeal.Value.res_out0 ReferenceIdeal.Value.res_main_v22 quant mkZp mkScale refLo refHi
  rw [hY]

/-! ## The whole array -/

variable (m : (ℓ : Loc nD τ sig) → Buf (Elt Ideal) ℓ)

/-- The kernel's array is the quantisation of the input at the same scale and zero point. -/
theorem final : (dats m 0 c).arrAt 0 cfg0.N
    = quant (s := S16384x2048) ![] ReferenceIdeal.Gen.bcast_S_S16384x2048 (XA m c) (mkScale (refLo (XA m c)) (refHi (XA m c)))
        (mkZp (refLo (XA m c)) (mkScale (refLo (XA m c)) (refHi (XA m c)))) := by
  refine (dats m 0 c).arrAt_eq_of_covers 0 _ covers fun t hf y => ?_
  have h32 := flush_second t hf
  obtain ⟨j, hj⟩ := quant_at (s := S16384x2048) ![] ReferenceIdeal.Gen.bcast_S_S16384x2048 (XA m c) (mkScale (refLo (XA m c)) (refHi (XA m c)))
    (mkZp (refLo (XA m c)) (mkScale (refLo (XA m c)) (refHi (XA m c)))) (((cfg0.win 0).blk t).view.emb y)
  refine Eq.trans ?_ hj.symm
  rw [mkScale_at, mkZp_at, mkScale_at]
  blk_simp
  rw [after0_0]
  unfold outV xv
  rw [pay19_at, scale_eq c _ j, zp_eq c _ j]
  have h := refLo_le j (XA m c) (((cfg0.win 0).blk t).view.emb y)
  have h' := le_refHi j (XA m c) (((cfg0.win 0).blk t).view.emb y)
  rw [xblk_at c _ t h32]
  exact Arith.element _ _ _ _ h.1 h'.1 h.2 h'.2

end Cert.KernelIdeal.Hand

end
-- ==== Proof.lean ====
/- The certificate: the five claims of `Cert.Claim`, put together from the kernel's run, the reference's run and the
   equality of the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Twin
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, leaves its argument as it was, and has no semaphore to leave raised. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- From equal arguments the kernel and the reference end with equal results: the quantisation of the argument. -/
theorem same_result : Cert.algebraic_KernelIdeal_ReferenceIdeal := fun m g m' g' _ hagree =>
  ⟨fun c => (Cert.KernelIdeal.Hand.dats m 0 c).arrAt 0 Cert.KernelIdeal.cfg0.N,
    (θ_run Cert.KernelIdeal.defs _ _).mono (fun _ h => h.1) (Cert.KernelIdeal.Hand.run_main m g),
    (θ_run Cert.ReferenceIdeal.defs _ _).mono
      (fun _ h c => ⟨(h c).1.trans ((Cert.KernelIdeal.Hand.ref_eq m' c _ (hagree c)).trans (Cert.KernelIdeal.Hand.final c m).symm), (h c).2⟩)
      (Cert.ReferenceIdeal.Value.run (F := Ideal) m' g')⟩

/-- All the claims. -/
theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g, frame_reference, trivial, same_result⟩

end Cert.Proof

end
